-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_LatentKernel (m : (ℓ : Loc Cert.LatentKernel.nD Cert.LatentKernel.τ Cert.LatentKernel.sig) → Buf (Elt Bits) ℓ) : Prop :=
  True

def Pre_LatentKernelIdeal (m : (ℓ : Loc Cert.LatentKernelIdeal.nD Cert.LatentKernelIdeal.τ Cert.LatentKernelIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_LatentKernel [hLatentKernel : Cert.LatentKernel.Facts] : Prop :=
  ∀ (m : (ℓ : Loc Cert.LatentKernel.nD Cert.LatentKernel.τ Cert.LatentKernel.sig) → Buf (Elt Bits) ℓ) (g : Dev Cert.LatentKernel.nD → PrngReg), Pre_LatentKernel m →
    θ_run (Cert.LatentKernel.defs (F := Bits)) (onTc (τ := Cert.LatentKernel.τ) (Cert.LatentKernel.main (F := Bits))) ⟨m, fun _ => 0, g⟩ (fun r => (∀ c : Dev Cert.LatentKernel.nD,
      r.2.mem ((c.tc : Thread Cert.LatentKernel.nD Cert.LatentKernel.τ).loc Cert.LatentKernel.main_arg0) = m ((c.tc : Thread Cert.LatentKernel.nD Cert.LatentKernel.τ).loc Cert.LatentKernel.main_arg0)
      ∧ r.2.mem ((c.tc : Thread Cert.LatentKernel.nD Cert.LatentKernel.τ).loc Cert.LatentKernel.main_arg1) = m ((c.tc : Thread Cert.LatentKernel.nD Cert.LatentKernel.τ).loc Cert.LatentKernel.main_arg1)
      ∧ r.2.mem ((c.tc : Thread Cert.LatentKernel.nD Cert.LatentKernel.τ).loc Cert.LatentKernel.main_arg2) = m ((c.tc : Thread Cert.LatentKernel.nD Cert.LatentKernel.τ).loc Cert.LatentKernel.main_arg2)
      ∧ r.2.mem ((c.tc : Thread Cert.LatentKernel.nD Cert.LatentKernel.τ).loc Cert.LatentKernel.main_arg3) = m ((c.tc : Thread Cert.LatentKernel.nD Cert.LatentKernel.τ).loc Cert.LatentKernel.main_arg3)
      ∧ r.2.mem ((c.tc : Thread Cert.LatentKernel.nD Cert.LatentKernel.τ).loc Cert.LatentKernel.main_arg4) = m ((c.tc : Thread Cert.LatentKernel.nD Cert.LatentKernel.τ).loc Cert.LatentKernel.main_arg4)
      ∧ r.2.mem ((c.tc : Thread Cert.LatentKernel.nD Cert.LatentKernel.τ).loc Cert.LatentKernel.main_arg5) = m ((c.tc : Thread Cert.LatentKernel.nD Cert.LatentKernel.τ).loc Cert.LatentKernel.main_arg5))
      ∧ r.2.sem = fun _ => 0)

def quiescent_LatentKernelIdeal [hLatentKernelIdeal : Cert.LatentKernelIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg), Pre_LatentKernelIdeal m →
    θ_run (Cert.LatentKernelIdeal.defs (F := Ideal)) (onTc (τ := Cert.LatentKernelIdeal.τ) (Cert.LatentKernelIdeal.main (F := Ideal))) ⟨m, fun _ => 0, g⟩ (fun r => (∀ c : Dev Cert.LatentKernelIdeal.nD,
      r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
      ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
      ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
      ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
      ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4)
      ∧ r.2.mem ((c.tc : Thread Cert.LatentKernelIdeal.nD Cert.LatentKernelIdeal.τ).loc Cert.LatentKernelIdeal.main_arg5) = m ((c.tc : Thread Cert.LatentKernelIdeal.nD Cert.LatentKernelIdeal.τ).loc Cert.LatentKernelIdeal.main_arg5))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_LatentKernel_LatentKernelIdeal : Prop :=
  True

def algebraic_LatentKernelIdeal_LatentReferenceIdeal [hLatentKernelIdeal : Cert.LatentKernelIdeal.Facts] [hLatentReferenceIdeal : Cert.LatentReferenceIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentKernelIdeal m →
    (∀ c : Dev Cert.LatentKernelIdeal.nD,
      m' ((c.tc : Thread Cert.LatentReferenceIdeal.nD Cert.LatentReferenceIdeal.τ).loc Cert.LatentReferenceIdeal.main_arg0) = m ((c.tc : Thread Cert.LatentKernelIdeal.nD Cert.LatentKernelIdeal.τ).loc Cert.LatentKernelIdeal.main_arg0)
      ∧ m' ((c.tc : Thread Cert.LatentReferenceIdeal.nD Cert.LatentReferenceIdeal.τ).loc Cert.LatentReferenceIdeal.main_arg1) = m ((c.tc : Thread Cert.LatentKernelIdeal.nD Cert.LatentKernelIdeal.τ).loc Cert.LatentKernelIdeal.main_arg1)
      ∧ m' ((c.tc : Thread Cert.LatentReferenceIdeal.nD Cert.LatentReferenceIdeal.τ).loc Cert.LatentReferenceIdeal.main_arg2) = m ((c.tc : Thread Cert.LatentKernelIdeal.nD Cert.LatentKernelIdeal.τ).loc Cert.LatentKernelIdeal.main_arg2)
      ∧ m' ((c.tc : Thread Cert.LatentReferenceIdeal.nD Cert.LatentReferenceIdeal.τ).loc Cert.LatentReferenceIdeal.main_arg3) = m ((c.tc : Thread Cert.LatentKernelIdeal.nD Cert.LatentKernelIdeal.τ).loc Cert.LatentKernelIdeal.main_arg3)
      ∧ m' ((c.tc : Thread Cert.LatentReferenceIdeal.nD Cert.LatentReferenceIdeal.τ).loc Cert.LatentReferenceIdeal.main_arg4) = m ((c.tc : Thread Cert.LatentKernelIdeal.nD Cert.LatentKernelIdeal.τ).loc Cert.LatentKernelIdeal.main_arg4)
      ∧ m' ((c.tc : Thread Cert.LatentReferenceIdeal.nD Cert.LatentReferenceIdeal.τ).loc Cert.LatentReferenceIdeal.main_arg5) = m ((c.tc : Thread Cert.LatentKernelIdeal.nD Cert.LatentKernelIdeal.τ).loc Cert.LatentKernelIdeal.main_arg5)) →
    ∃ (v0 : (c : Dev Cert.LatentKernelIdeal.nD) → Buf (Elt Ideal) ((c.tc : Thread Cert.LatentKernelIdeal.nD Cert.LatentKernelIdeal.τ).loc Cert.LatentKernelIdeal.main_v6_0)) (v1 : (c : Dev Cert.LatentKernelIdeal.nD) → Buf (Elt Ideal) ((c.tc : Thread Cert.LatentKernelIdeal.nD Cert.LatentKernelIdeal.τ).loc Cert.LatentKernelIdeal.main_v6_1)) (v2 : (c : Dev Cert.LatentKernelIdeal.nD) → Buf (Elt Ideal) ((c.tc : Thread Cert.LatentKernelIdeal.nD Cert.LatentKernelIdeal.τ).loc Cert.LatentKernelIdeal.main_v6_2)),
      θ_run (Cert.LatentKernelIdeal.defs (F := Ideal)) (onTc (τ := Cert.LatentKernelIdeal.τ) (Cert.LatentKernelIdeal.main (F := Ideal))) ⟨m, fun _ => 0, g⟩ (fun r => ∀ c : Dev Cert.LatentKernelIdeal.nD,
          r.2.mem ((c.tc : Thread Cert.LatentKernelIdeal.nD Cert.LatentKernelIdeal.τ).loc Cert.LatentKernelIdeal.main_v6_0) = v0 c
          ∧ r.2.mem ((c.tc : Thread Cert.LatentKernelIdeal.nD Cert.LatentKernelIdeal.τ).loc Cert.LatentKernelIdeal.main_v6_1) = v1 c
          ∧ r.2.mem ((c.tc : Thread Cert.LatentKernelIdeal.nD Cert.LatentKernelIdeal.τ).loc Cert.LatentKernelIdeal.main_v6_2) = v2 c
          ∧ r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
          ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
          ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
          ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
          ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4)
          ∧ r.2.mem ((c.tc : Thread Cert.LatentKernelIdeal.nD Cert.LatentKernelIdeal.τ).loc Cert.LatentKernelIdeal.main_arg5) = m ((c.tc : Thread Cert.LatentKernelIdeal.nD Cert.LatentKernelIdeal.τ).loc Cert.LatentKernelIdeal.main_arg5))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v5_0) = v0 c
          ∧ r.2.mem ((c.tc : Thread Cert.LatentReferenceIdeal.nD Cert.LatentReferenceIdeal.τ).loc Cert.LatentReferenceIdeal.main_v5_1) = v1 c
          ∧ r.2.mem ((c.tc : Thread Cert.LatentReferenceIdeal.nD Cert.LatentReferenceIdeal.τ).loc Cert.LatentReferenceIdeal.main_v5_2) = v2 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5))

def Claim : Prop :=
  ∃ (hKernel : Cert.Kernel.Facts) (hKernelIdeal : Cert.KernelIdeal.Facts) (hReferenceIdeal : Cert.ReferenceIdeal.Facts) (hLatentKernel : Cert.LatentKernel.Facts) (hLatentKernelIdeal : Cert.LatentKernelIdeal.Facts) (hLatentReferenceIdeal : Cert.LatentReferenceIdeal.Facts),
    quiescent_Kernel (hKernel := hKernel)
    ∧ quiescent_KernelIdeal (hKernelIdeal := hKernelIdeal)
    ∧ quiescent_ReferenceIdeal (hReferenceIdeal := hReferenceIdeal)
    ∧ quiescent_LatentKernel (hLatentKernel := hLatentKernel)
    ∧ quiescent_LatentKernelIdeal (hLatentKernelIdeal := hLatentKernelIdeal)
    ∧ quiescent_LatentReferenceIdeal (hLatentReferenceIdeal := hLatentReferenceIdeal)
    ∧ preserves_Kernel_KernelIdeal
    ∧ algebraic_KernelIdeal_ReferenceIdeal (hKernelIdeal := hKernelIdeal) (hReferenceIdeal := hReferenceIdeal)
    ∧ preserves_LatentKernel_LatentKernelIdeal
    ∧ algebraic_LatentKernelIdeal_LatentReferenceIdeal (hLatentKernelIdeal := hLatentKernelIdeal) (hLatentReferenceIdeal := hLatentReferenceIdeal)
-- ==== Kernel.lean ====
abbrev S4x49152x1152 : Shape := ⟨3, ![4, 49152, 1152]⟩
abbrev S4x49152 : Shape := ⟨2, ![4, 49152]⟩
abbrev S1152x2x16x64 : Shape := ⟨4, ![1152, 2, 16, 64]⟩
abbrev S2x16x64 : Shape := ⟨3, ![2, 16, 64]⟩
abbrev S16x64 : Shape := ⟨2, ![16, 64]⟩
abbrev S4x1x49152 : Shape := ⟨3, ![4, 1, 49152]⟩
abbrev S1152x2048 : Shape := ⟨2, ![1152, 2048]⟩
abbrev S2048x1152 : Shape := ⟨2, ![2048, 1152]⟩
abbrev S2048x1 : Shape := ⟨2, ![2048, 1]⟩
abbrev S2048x128 : Shape := ⟨2, ![2048, 128]⟩
abbrev S1024x1 : Shape := ⟨2, ![1024, 1]⟩
abbrev S1024x128 : Shape := ⟨2, ![1024, 128]⟩
abbrev S4x1024x49152 : Shape := ⟨3, ![4, 1024, 49152]⟩
abbrev S4x16x49152 : Shape := ⟨3, ![4, 16, 49152]⟩
abbrev S1x1024x1152 : Shape := ⟨3, ![1, 1024, 1152]⟩
abbrev S1x1x1024 : Shape := ⟨3, ![1, 1, 1024]⟩
abbrev S1x1024x1024 : Shape := ⟨3, ![1, 1024, 1024]⟩
abbrev S1x16x1024 : Shape := ⟨3, ![1, 16, 1024]⟩
abbrev S1024x1152 : Shape := ⟨2, ![1024, 1152]⟩
abbrev S256x1152 : Shape := ⟨2, ![256, 1152]⟩
abbrev S256x1024 : Shape := ⟨2, ![256, 1024]⟩
abbrev S64x128 : Shape := ⟨2, ![64, 128]⟩
abbrev S1x1x128 : Shape := ⟨3, ![1, 1, 128]⟩
abbrev S1x128 : Shape := ⟨2, ![1, 128]⟩
abbrev S128 : Shape := ⟨1, ![128]⟩
abbrev S248x128 : Shape := ⟨2, ![248, 128]⟩
abbrev S1x64x128 : Shape := ⟨3, ![1, 64, 128]⟩

abbrev nBuf : Space → Nat
  | .hbm => 16
  | .vmem => 15
  | .smem => 0
  | _ => 0

abbrev bufTy : (tb : Table) → Fin (tcTables nBuf tb) → BufTy
  | .hbm, ⟨0, _⟩ => ⟨S4x49152x1152, .fp8e4m3⟩
  | .hbm, ⟨1, _⟩ => ⟨S4x49152, .f32⟩
  | .hbm, ⟨2, _⟩ => ⟨S1152x2x16x64, .fp8e4m3⟩
  | .hbm, ⟨3, _⟩ => ⟨S2x16x64, .f32⟩
  | .hbm, ⟨4, _⟩ => ⟨S16x64, .f32⟩
  | .hbm, ⟨5, _⟩ => ⟨S4x1x49152, .f32⟩
  | .hbm, ⟨6, _⟩ => ⟨S1152x2048, .fp8e4m3⟩
  | .hbm, ⟨7, _⟩ => ⟨S2048x1152, .fp8e4m3⟩
  | .hbm, ⟨8, _⟩ => ⟨S2048x1, .f32⟩
  | .hbm, ⟨9, _⟩ => ⟨S2048x128, .f32⟩
  | .hbm, ⟨10, _⟩ => ⟨S1024x1, .f32⟩
  | .hbm, ⟨11, _⟩ => ⟨S1024x128, .f32⟩
  | .hbm, ⟨12, _⟩ => ⟨S4x1024x49152, .fp8e4m3⟩
  | .hbm, ⟨13, _⟩ => ⟨S4x16x49152, .f32⟩
  | .hbm, ⟨14, _⟩ => ⟨S4x1024x49152, .fp8e4m3⟩
  | .hbm, ⟨15, _⟩ => ⟨S4x16x49152, .f32⟩
  | .local _ .vmem, ⟨0, _⟩ => ⟨S1x1024x1152, .fp8e4m3⟩
  | .local _ .vmem, ⟨1, _⟩ => ⟨S1x1024x1152, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S2048x1152, .fp8e4m3⟩
  | .local _ .vmem, ⟨5, _⟩ => ⟨S2048x128, .f32⟩
  | .local _ .vmem, ⟨6, _⟩ => ⟨S1024x128, .f32⟩
  | .local _ .vmem, ⟨7, _⟩ => ⟨S1x1024x1024, .fp8e4m3⟩
  | .local _ .vmem, ⟨8, _⟩ => ⟨S1x1024x1024, .fp8e4m3⟩
  | .local _ .vmem, ⟨9, _⟩ => ⟨S1x16x1024, .f32⟩
  | .local _ .vmem, ⟨10, _⟩ => ⟨S1x16x1024, .f32⟩
  | .local _ .vmem, ⟨11, _⟩ => ⟨S1x1024x1024, .fp8e4m3⟩
  | .local _ .vmem, ⟨12, _⟩ => ⟨S1x1024x1024, .fp8e4m3⟩
  | .local _ .vmem, ⟨13, _⟩ => ⟨S1x16x1024, .f32⟩
  | .local _ .vmem, ⟨14, _⟩ => ⟨S1x16x1024, .f32⟩
  | _, _ => ⟨S4x49152x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x49152x1152 : Shape := ⟨3, ![4, 49152, 1152]⟩
abbrev S4x49152 : Shape := ⟨2, ![4, 49152]⟩
abbrev S1152x2x16x64 : Shape := ⟨4, ![1152, 2, 16, 64]⟩
abbrev S2x16x64 : Shape := ⟨3, ![2, 16, 64]⟩
abbrev S16x64 : Shape := ⟨2, ![16, 64]⟩
abbrev S1152x2048 : Shape := ⟨2, ![1152, 2048]⟩
abbrev S2048x1 : Shape := ⟨2, ![2048, 1]⟩
abbrev S4x1024x49152 : Shape := ⟨3, ![4, 1024, 49152]⟩
abbrev S4x16x49152 : Shape := ⟨3, ![4, 16, 49152]⟩
abbrev S1x49152x1152 : Shape := ⟨3, ![1, 49152, 1152]⟩
abbrev S49152x1152 : Shape := ⟨2, ![49152, 1152]⟩
abbrev S2048x49152 : Shape := ⟨2, ![2048, 49152]⟩
abbrev S1x49152 : Shape := ⟨2, ![1, 49152]⟩
abbrev S32x64x49152 : Shape := ⟨3, ![32, 64, 49152]⟩
abbrev S16x64x49152 : Shape := ⟨3, ![16, 64, 49152]⟩
abbrev S16x64x1 : Shape := ⟨3, ![16, 64, 1]⟩
abbrev S16x49152 : Shape := ⟨2, ![16, 49152]⟩
abbrev S16x1x49152 : Shape := ⟨3, ![16, 1, 49152]⟩
abbrev S1024x49152 : Shape := ⟨2, ![1024, 49152]⟩
abbrev S1x1024x49152 : Shape := ⟨3, ![1, 1024, 49152]⟩
abbrev S1x16x49152 : Shape := ⟨3, ![1, 16, 49152]⟩

abbrev nBuf : Space → Nat
  | .hbm => 11
  | .vmem => 9
  | .smem => 0
  | _ => 0

abbrev bufTy : (tb : Table) → Fin (tcTables nBuf tb) → BufTy
  | .hbm, ⟨0, _⟩ => ⟨S4x49152x1152, .fp8e4m3⟩
  | .hbm, ⟨1, _⟩ => ⟨S4x49152, .f32⟩
  | .hbm, ⟨2, _⟩ => ⟨S1152x2x16x64, .fp8e4m3⟩
  | .hbm, ⟨3, _⟩ => ⟨S2x16x64, .f32⟩
  | .hbm, ⟨4, _⟩ => ⟨S16x64, .f32⟩
  | .hbm, ⟨5, _⟩ => ⟨S1152x2048, .fp8e4m3⟩
  | .hbm, ⟨6, _⟩ => ⟨S2048x1, .f32⟩
  | .hbm, ⟨7, _⟩ => ⟨S4x1024x49152, .fp8e4m3⟩
  | .hbm, ⟨8, _⟩ => ⟨S4x16x49152, .f32⟩
  | .hbm, ⟨9, _⟩ => ⟨S4x1024x49152, .fp8e4m3⟩
  | .hbm, ⟨10, _⟩ => ⟨S4x16x49152, .f32⟩
  | .local _ .vmem, ⟨0, _⟩ => ⟨S4x49152x1152, .fp8e4m3⟩
  | .local _ .vmem, ⟨1, _⟩ => ⟨S4x49152, .f32⟩
  | .local _ .vmem, ⟨2, _⟩ => ⟨S1152x2048, .fp8e4m3⟩
  | .local _ .vmem, ⟨3, _⟩ => ⟨S2048x1, .f32⟩
  | .local _ .vmem, ⟨4, _⟩ => ⟨S16x64, .f32⟩
  | .local _ .vmem, ⟨5, _⟩ => ⟨S4x1024x49152, .fp8e4m3⟩
  | .local _ .vmem, ⟨6, _⟩ => ⟨S4x16x49152, .f32⟩
  | .local _ .vmem, ⟨7, _⟩ => ⟨S4x1024x49152, .fp8e4m3⟩
  | .local _ .vmem, ⟨8, _⟩ => ⟨S4x16x49152, .f32⟩
  | _, _ => ⟨S4x49152x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x49152x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x49152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x49152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x16x49152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024x49152 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x16x49152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== LatentKernel.lean ====
abbrev S288x1024 : Shape := ⟨2, ![288, 1024]⟩
abbrev S1024 : Shape := ⟨1, ![1024]⟩
abbrev S1024x16x64 : Shape := ⟨3, ![1024, 16, 64]⟩
abbrev S16x64 : Shape := ⟨2, ![16, 64]⟩
abbrev S1x1024 : Shape := ⟨2, ![1, 1024]⟩
abbrev S1024x1024 : Shape := ⟨2, ![1024, 1024]⟩
abbrev S288x1 : Shape := ⟨2, ![288, 1]⟩
abbrev S288 : Shape := ⟨1, ![288]⟩
abbrev S288x248 : Shape := ⟨2, ![288, 248]⟩

abbrev nBuf : Space → Nat
  | .hbm => 15
  | .vmem => 9
  | .smem => 0
  | _ => 0

abbrev bufTy : (tb : Table) → Fin (tcTables nBuf tb) → BufTy
  | .hbm, ⟨0, _⟩ => ⟨S288x1024, .f32⟩
  | .hbm, ⟨1, _⟩ => ⟨S1024, .f32⟩
  | .hbm, ⟨2, _⟩ => ⟨S1024, .f32⟩
  | .hbm, ⟨3, _⟩ => ⟨S1024x16x64, .fp8e4m3⟩
  | .hbm, ⟨4, _⟩ => ⟨S16x64, .f32⟩
  | .hbm, ⟨5, _⟩ => ⟨S16x64, .f32⟩
  | .hbm, ⟨6, _⟩ => ⟨S1x1024, .f32⟩
  | .hbm, ⟨7, _⟩ => ⟨S1x1024, .f32⟩
  | .hbm, ⟨8, _⟩ => ⟨S1024x1024, .fp8e4m3⟩
  | .hbm, ⟨9, _⟩ => ⟨S1024x1024, .fp8e4m3⟩
  | .hbm, ⟨10, _⟩ => ⟨S1x1024, .f32⟩
  | .hbm, ⟨11, _⟩ => ⟨S1x1024, .f32⟩
  | .hbm, ⟨12, _⟩ => ⟨S288x1024, .fp8e4m3⟩
  | .hbm, ⟨13, _⟩ => ⟨S288x1, .f32⟩
  | .hbm, ⟨14, _⟩ => ⟨S288x1024, .bf16⟩
  | .local _ .vmem, ⟨0, _⟩ => ⟨S288x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .fp8e4m3⟩
  | .local _ .vmem, ⟨4, _⟩ => ⟨S1x1024, .f32⟩
  | .local _ .vmem, ⟨5, _⟩ => ⟨S1x1024, .f32⟩
  | .local _ .vmem, ⟨6, _⟩ => ⟨S288x1024, .fp8e4m3⟩
  | .local _ .vmem, ⟨7, _⟩ => ⟨S288x1, .f32⟩
  | .local _ .vmem, ⟨8, _⟩ => ⟨S288x1024, .bf16⟩
  | _, _ => ⟨S288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S288x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S288x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== LatentReferenceIdeal.lean ====
abbrev S288x1024 : Shape := ⟨2, ![288, 1024]⟩
abbrev S1024 : Shape := ⟨1, ![1024]⟩
abbrev S1024x16x64 : Shape := ⟨3, ![1024, 16, 64]⟩
abbrev S16x64 : Shape := ⟨2, ![16, 64]⟩
abbrev S1x1024 : Shape := ⟨2, ![1, 1024]⟩
abbrev S1024x1024 : Shape := ⟨2, ![1024, 1024]⟩
abbrev S288x1 : Shape := ⟨2, ![288, 1]⟩
abbrev S288 : Shape := ⟨1, ![288]⟩

abbrev nBuf : Space → Nat
  | .hbm => 14
  | .vmem => 9
  | .smem => 0
  | _ => 0

abbrev bufTy : (tb : Table) → Fin (tcTables nBuf tb) → BufTy
  | .hbm, ⟨0, _⟩ => ⟨S288x1024, .f32⟩
  | .hbm, ⟨1, _⟩ => ⟨S1024, .f32⟩
  | .hbm, ⟨2, _⟩ => ⟨S1024, .f32⟩
  | .hbm, ⟨3, _⟩ => ⟨S1024x16x64, .fp8e4m3⟩
  | .hbm, ⟨4, _⟩ => ⟨S16x64, .f32⟩
  | .hbm, ⟨5, _⟩ => ⟨S16x64, .f32⟩
  | .hbm, ⟨6, _⟩ => ⟨S1x1024, .f32⟩
  | .hbm, ⟨7, _⟩ => ⟨S1x1024, .f32⟩
  | .hbm, ⟨8, _⟩ => ⟨S1024x1024, .fp8e4m3⟩
  | .hbm, ⟨9, _⟩ => ⟨S1x1024, .f32⟩
  | .hbm, ⟨10, _⟩ => ⟨S1x1024, .f32⟩
  | .hbm, ⟨11, _⟩ => ⟨S288x1024, .fp8e4m3⟩
  | .hbm, ⟨12, _⟩ => ⟨S288x1, .f32⟩
  | .hbm, ⟨13, _⟩ => ⟨S288x1024, .bf16⟩
  | .local _ .vmem, ⟨0, _⟩ => ⟨S288x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .fp8e4m3⟩
  | .local _ .vmem, ⟨4, _⟩ => ⟨S1x1024, .f32⟩
  | .local _ .vmem, ⟨5, _⟩ => ⟨S1x1024, .f32⟩
  | .local _ .vmem, ⟨6, _⟩ => ⟨S288x1024, .fp8e4m3⟩
  | .local _ .vmem, ⟨7, _⟩ => ⟨S288x1, .f32⟩
  | .local _ .vmem, ⟨8, _⟩ => ⟨S288x1024, .bf16⟩
  | _, _ => ⟨S288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S288x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S288x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Units.lean ====
/-
  THE PROJECTION KERNEL, READ AS A FAMILY. One grid point of the kernel stores each of its four output blocks as 128
  pieces: one per head (16) and per lane tile of 128 tokens (8). Every piece is the same chain of operations at its own
  head and tile. Here the chain is written once, as a function of the head's row `r` of the stacked weight (heads 0–15 are
  the keys, heads 16–31 the values) and of the tile `c`, and each generated output block is shown to be the family.
-/
module

public import proofs.«01_k».proof.Proof.Gen.KernelIdeal.Frame

@[expose] public section

set_option maxRecDepth 16384

noncomputable section

namespace Cert.Units

open Cert.KernelIdeal Cert.KernelIdeal.Gen Idealize.ShloMosaic Idealize.ShloMosaic.TcCoe

variable {F : FTy → Type} [FloatOps F]

/-! ## Where the pieces read and write -/

/-- The 256 weight rows (four heads) of head `r`. -/
abbrev offW (r : Fin 32) : Fin 2 → Nat := ![r.val / 4 * 256, 0]
/-- Head `r`'s 64 rows and tile `c`'s 128 lanes inside the product of those 256 rows with the tokens. -/
abbrev offP (r : Fin 32) (c : Fin 8) : Fin 2 → Nat := ![r.val % 4 * 64, c.val * 128]
/-- Head `r`'s 64 rows of a table with one row per weight row. -/
abbrev offS (r : Fin 32) : Fin 2 → Nat := ![r.val * 64, 0]
/-- Tile `c`'s lanes of the token scales. -/
abbrev offX (c : Fin 8) : Fin 3 → Nat := ![0, 0, c.val * 128]
/-- Piece `n` (head `n / 8`, tile `n % 8`) of a block of codes. -/
abbrev offC (n : Fin 128) : Fin 3 → Nat := ![0, n.val / 8 * 64, n.val % 8 * 128]
/-- Piece `n` of a block of scales. -/
abbrev offE (n : Fin 128) : Fin 3 → Nat := ![0, n.val / 8, n.val % 8 * 128]
/-- Head `h`'s rows of the bias. -/
abbrev offB (h : Fin 16) : Fin 2 → Nat := ![h.val * 64, 0]

theorem inbW (r : Fin 32) : ∀ a, offW r a + S256x1152.size a ≤ S2048x1152.size a := by revert r; decide
theorem inbP (r : Fin 32) (c : Fin 8) : S256x1024.Slices (offP r c) S64x128 := by revert r c; decide
theorem inbS (r : Fin 32) : ∀ a, offS r a + S64x128.size a ≤ S2048x128.size a := by revert r; decide
theorem inbX (c : Fin 8) : ∀ a, offX c a + S1x1x128.size a ≤ S1x1x1024.size a := by revert c; decide
theorem inbC (n : Fin 128) : ∀ a, offC n a + S1x64x128.size a ≤ S1x1024x1024.size a := by revert n; decide
theorem inbE (n : Fin 128) : ∀ a, offE n a + S1x1x128.size a ≤ S1x16x1024.size a := by revert n; decide
theorem inbB (h : Fin 16) : ∀ a, offB h a + S64x128.size a ≤ S1024x128.size a := by revert h; decide

/-- The head and the tile of piece `n`. -/
abbrev hd (n : Fin 128) : Fin 16 := ⟨n.val / 8, by omega⟩
abbrev tl (n : Fin 128) : Fin 8 := ⟨n.val % 8, by omega⟩
/-- A key head and a value head as heads of the stacked weight. -/
abbrev kRow (h : Fin 16) : Fin 32 := ⟨h.val, by omega⟩
abbrev vRow (h : Fin 16) : Fin 32 := ⟨h.val + 16, by omega⟩

section
variable (x0 : Vec F S1x1024x1152 .fp8e4m3) (x1 : Vec F S1x1x1024 .f32) (x2 : Vec F S2048x1152 .fp8e4m3)
  (x3 : Vec F S2048x128 .f32) (x4 : Vec F S1024x128 .f32)

/-! ## The chain -/

/-- The product of the 256 weight rows around head `r` with the block's 1024 tokens. -/
def prod (r : Fin 32) : FVec F S256x1024 .f32 :=
  matmul dot_S256x1152_S1024x1152_S256x1024_1_1_0_0_n_n none
    (shapeCast S256x1152 (View.ld x2 (Rect.unit (s := S2048x1152) (offW r) S256x1152.size (inbW r))) shapeCasts_S256x1152_S256x1152)
    (shapeCast S1024x1152 (View.ld x0 r0_0) shapeCasts_S1x1024x1152_S1024x1152)
    (constant S256x1024 .f32 0x00000000#32)

/-- Head `r` at tile `c`: the product times the token scales times the row scales. -/
def head (r : Fin 32) (c : Fin 8) : FVec F S64x128 .f32 :=
  mulf (mulf (extractStridedSlice S64x128 (offP r c) (prod x0 x2 r) (inbP r c))
      (broadcastTo S64x128 (shapeCast S1x128 (View.ld x1 (Rect.unit (s := S1x1x1024) (offX c) S1x1x128.size (inbX c))) shapeCasts_S1x1x128_S1x128)
        broadcasts_S1x128_S64x128))
    (shapeCast S64x128 (View.ld x3 (Rect.unit (s := S2048x128) (offS r) S64x128.size (inbS r))) shapeCasts_S64x128_S64x128)

/-- Key head `h` at tile `c`. -/
def keyHead (h : Fin 16) (c : Fin 8) : FVec F S64x128 .f32 := head x0 x1 x2 x3 (kRow h) c

/-- Value head `h` at tile `c`: with the bias. -/
def valHead (h : Fin 16) (c : Fin 8) : FVec F S64x128 .f32 :=
  addf (head x0 x1 x2 x3 (vRow h) c)
    (shapeCast S64x128 (View.ld x4 (Rect.unit (s := S1024x128) (offB h) S64x128.size (inbB h))) shapeCasts_S64x128_S64x128)

end

/-- The largest magnitude of each token's head, divided by 448. -/
def amaxVec (v : FVec F S64x128 .f32) : FVec F S1x128 .f32 :=
  mulf (shapeCast S1x128 (multiReduction .maximumf [0] S128 (absf v) 0xFF800000#32 reduces_S64x128_S128 (.inl rfl) rfl) shapeCasts_S128_S1x128)
    (broadcast S1x128 (Scalar.ofBits .f32 0x3B124925#32))

/-- The exponent field of a value, as the kernel finds it: the largest of 0..247 whose power of two the value reaches. -/
def fieldVec (a : FVec F S1x128 .f32) : IVec S1x128 32 :=
  shapeCast S1x128 (multiReductionI .maxsi [0] S128
    (select (cmpf .ole (bitcastToFloat .f32 (shli (iota .tc S248x128 32 [0] iota_S248x128_d0_w32) (broadcast S248x128 23#32)))
        (broadcastTo S248x128 a broadcasts_S1x128_S248x128))
      (iota .tc S248x128 32 [0] iota_S248x128_d0_w32) (broadcast S248x128 0#32))
    2147483648#32 reduces_S248x128_S128 rfl) shapeCasts_S128_S1x128

/-- The exponent field of the scale: one above the value's, 127 (a scale of one) where the value's is 0. -/
def scaleFieldVec (a : FVec F S1x128 .f32) : IVec S1x128 32 :=
  select (cmpi .eq (fieldVec a) (broadcast S1x128 0#32)) (broadcast S1x128 127#32) (addi (fieldVec a) (broadcast S1x128 1#32))

/-- The scale. -/
def scaleVec (v : FVec F S64x128 .f32) : FVec F S1x1x128 .f32 :=
  shapeCast S1x1x128 (bitcastToFloat .f32 (shli (scaleFieldVec (amaxVec v)) (broadcast S1x128 23#32))) shapeCasts_S1x128_S1x1x128

/-- The codes: the values over their scale, clipped. -/
def codeVec (v : FVec F S64x128 .f32) : FVec F S1x64x128 .fp8e4m3 :=
  shapeCast S1x64x128 (truncf .fp8e4m3
    (minimumf (broadcast S64x128 (Scalar.ofBits .f32 0x43E00000#32))
      (maximumf (broadcast S64x128 (Scalar.ofBits .f32 0xC3E00000#32))
        (mulf v (broadcastTo S64x128
          (bitcastToFloat .f32 (shli (subi (broadcast S1x128 254#32) (scaleFieldVec (amaxVec v))) (broadcast S1x128 23#32)))
          broadcasts_S1x128_S64x128)))) bitsLt_fp8e4m3_f32) shapeCasts_S64x128_S1x64x128

/-! ## The generated blocks are the families (last store first: piece `127 - k`) -/

/-- The family of code pieces of heads `v`. -/
def codes (v : Fin 16 → Fin 8 → FVec F S64x128 .f32) : Vec F S1x1024x1024 .fp8e4m3 :=
  View.canon (List.ofFn fun k : Fin 128 =>
    ⟨Rect.unit (s := S1x1024x1024) (offC k.rev) S1x64x128.size (inbC k.rev), codeVec (v (hd k.rev) (tl k.rev))⟩)

/-- The family of scale pieces of heads `v`. -/
def scales (v : Fin 16 → Fin 8 → FVec F S64x128 .f32) : Vec F S1x16x1024 .f32 :=
  View.canon (List.ofFn fun k : Fin 128 =>
    ⟨Rect.unit (s := S1x16x1024) (offE k.rev) S1x1x128.size (inbE k.rev), scaleVec (v (hd k.rev) (tl k.rev))⟩)

variable (x0 : Vec F S1x1024x1152 .fp8e4m3) (x1 : Vec F S1x1x1024 .f32) (x2 : Vec F S2048x1152 .fp8e4m3)
  (x3 : Vec F S2048x128 .f32) (x4 : Vec F S1024x128 .f32)

theorem out5_eq : out0_5 x0 x1 x2 x3 x4 = codes (keyHead x0 x1 x2 x3) := rfl
theorem out6_eq : out0_6 x0 x1 x2 x3 x4 = scales (keyHead x0 x1 x2 x3) := rfl
theorem out7_eq : out0_7 x0 x1 x2 x3 x4 = codes (valHead x0 x1 x2 x3 x4) := rfl
theorem out8_eq : out0_8 x0 x1 x2 x3 x4 = scales (valHead x0 x1 x2 x3 x4) := rfl

end Cert.Units
-- ==== Proof.Pow2.lean ====
/-
  The power-of-two scale, computed twice.

  Both programs quantise a vector with the scale `2^e`, `2^(e-1) ≤ a < 2^e`, of a nonnegative number `a`. The kernel finds
  `e` by searching a table of powers of two for the exponent field of `a` and builds `2^e` and `2^(-e)` as bit patterns; the
  reference takes `e = ⌊log a / log 2⌋ + 1`. Both replace `e` by 0 below the normal floats, and by 121 above `2^120`.
  This module states the two computations on one extended real and proves them equal on every `a ≥ 0`, `⊤` included.
-/
module

public import Idealize.ShloMosaic.PureOps.Ideal
public import Idealize.ShloMosaic.Lib.Pointwise

@[expose] public section

noncomputable section

namespace Cert.Pow2

open Idealize.ShloMosaic

/-- The table search's operand at row `k`: `k` where `2^(k-127) ≤ a` (the pattern `k << 23` read as a float), else 0. -/
def entry (a : EReal) (k : Fin 248) : BitVec 32 :=
  Scalar.select (Ideal.cmp .ole (Ideal.ofBits .f32 (IntOp.shli .vector (BitVec.ofNat 32 k.val) 23#32)) a)
    (BitVec.ofNat 32 k.val) 0#32

/-- The greatest entry: the exponent field of `a`. -/
def field (a : EReal) : BitVec 32 := Finset.univ.fold IntOp.maxsi 2147483648#32 (entry a)

/-- The field of the scale: one more, or that of 1 where the field is 0. -/
def scaleField (a : EReal) : BitVec 32 :=
  Scalar.select (IntOp.cmpi .eq (field a) 0#32) 127#32 (IntOp.addi (field a) 1#32)

/-- The kernel's scale. -/
def kScale (a : EReal) : EReal := Ideal.ofBits .f32 (IntOp.shli .vector (scaleField a) 23#32)

/-- The kernel's reciprocal of the scale. -/
def kInv (a : EReal) : EReal := Ideal.ofBits .f32 (IntOp.shli .vector (IntOp.subi 254#32 (scaleField a)) 23#32)

/-- The reference's exponent. -/
def rExp (a : EReal) : EReal :=
  Scalar.select (Ideal.cmp .olt a (Ideal.ofBits .f32 0x00800000#32)) (Ideal.ofBits .f32 0x00000000#32)
    (min (Ideal.liftRound Int.floor (Ideal.div (Ideal.log a) (Ideal.log (Ideal.ofBits .f32 0x40000000#32)))
      + Ideal.ofBits .f32 0x3F800000#32) (Ideal.ofBits .f32 0x42F20000#32))

/-- The reference's scale. -/
def rScale (a : EReal) : EReal := Ideal.exp2 (rExp a)

/-- The reference's reciprocal of the scale. -/
def rInv (a : EReal) : EReal := Ideal.exp2 (Ideal.ofBits .f32 0x00000000#32 - rExp a)

/-! ## Constants -/

theorem c_zero : Ideal.ofBits .f32 0x00000000#32 = 0 := by simp [Ideal.ofBits, Ideal.ieee]
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_cap : Ideal.ofBits .f32 0x42F20000#32 = ((121 : ℝ) : EReal) := by
  simp [Ideal.ofBits, Ideal.ieee, -EReal.coe_mul]; norm_num

/-! ## Powers of two as bit patterns -/

/-- The three parts of the pattern `k << 23`. -/
theorem parts : ∀ k : Fin 255,
    (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- The pattern `k << 23` denotes `2^(k-127)` for `1 ≤ k ≤ 254`. -/
theorem ofBits_shl (k : ℕ) (h1 : 1 ≤ k) (h2 : k ≤ 254) :
    Ideal.ofBits .f32 (IntOp.shli .vector (BitVec.ofNat 32 k) 23#32) = (((2 : ℝ) ^ ((k : ℤ) - 127) : ℝ) : EReal) := by
  obtain ⟨p1, p2, p3⟩ := parts ⟨k, by omega⟩
  simp only at p1 p2 p3
  show Ideal.ieee 8 23 _ = _
  unfold Ideal.ieee
  simp only [p1, p2, p3, show (8 + 23 : ℕ) = 31 from rfl]
  rw [if_neg (by norm_num; omega), if_neg (by omega)]
  refine congrArg Real.toEReal ?_
  have e : (k : ℤ) - (2 ^ (8 - 1) - 1) - (23 : ℕ) = (k : ℤ) - 150 := by norm_num; omega
  have e' : (k : ℤ) - 127 = 23 + ((k : ℤ) - 150) := by ring
  have h23 : (2 : ℝ) ^ (23 : ℤ) = 8388608 := by norm_num
  rw [e, e', zpow_add₀ (by norm_num), h23]
  simp

/-- The pattern 0 denotes 0. -/
theorem ofBits_shl_zero : Ideal.ofBits .f32 (IntOp.shli .vector (BitVec.ofNat 32 0) 23#32) = 0 := by
  have : IntOp.shli .vector (BitVec.ofNat 32 0) 23#32 = 0x00000000#32 := by decide
  rw [this, c_zero]

theorem c_min : Ideal.ofBits .f32 0x00800000#32 = (((2 : ℝ) ^ (-126 : ℤ) : ℝ) : EReal) := by
  have : (0x00800000#32 : BitVec 32) = IntOp.shli .vector (BitVec.ofNat 32 1) 23#32 := by decide
  rw [this, ofBits_shl 1 (by norm_num) (by norm_num)]; norm_num

/-! ## The search -/

theorem toInt_maxsi (x y : BitVec 32) : (IntOp.maxsi x y).toInt = max x.toInt y.toInt := by
  unfold IntOp.maxsi
  split
  · rename_i h
    rw [BitVec.slt_iff_toInt_lt] at h
    omega
  · rename_i h
    rw [BitVec.slt_iff_toInt_lt] at h
    omega

theorem toInt_ofNat (n : ℕ) (h : n < 2 ^ 31) : (BitVec.ofNat 32 n).toInt = n := by
  have hn : (BitVec.ofNat 32 n).toNat = n := by rw [BitVec.toNat_ofNat]; exact Nat.mod_eq_of_lt (by omega)
  rw [BitVec.toInt_eq_toNat_of_lt (by omega), hn]

/-- The greatest of the numbers below 248 that are at most `N` is `N`. -/
theorem fold_le (N : Fin 248) : Finset.univ.fold IntOp.maxsi 2147483648#32
    (fun k : Fin 248 => if k.val ≤ N.val then BitVec.ofNat 32 k.val else 0#32) = BitVec.ofNat 32 N.val := by
  apply BitVec.eq_of_toInt_eq
  rw [toInt_ofNat _ (by omega), ← Finset.fold_hom (op' := max) (m := BitVec.toInt) toInt_maxsi]
  have hz : (0#32 : BitVec 32).toInt = 0 := by decide
  have hmin : (2147483648#32 : BitVec 32).toInt = -2147483648 := by decide
  apply le_antisymm
  · rw [Finset.fold_max_le]
    refine ⟨by rw [hmin]; omega, fun k _ => ?_⟩
    split
    · rw [toInt_ofNat _ (by omega)]; omega
    · rw [hz]; omega
  · rw [Finset.le_fold_max]
    refine Or.inr ⟨N, Finset.mem_univ _, ?_⟩
    rw [if_pos le_rfl, toInt_ofNat _ (by omega)]

/-- If the rows `1 ≤ k` whose power is at most `a` are those up to `N`, the search finds `N`. -/
theorem field_eq (a : EReal) (N : ℕ) (hN : N ≤ 247)
    (h : ∀ k : ℕ, 1 ≤ k → k ≤ 247 → ((((2 : ℝ) ^ ((k : ℤ) - 127) : ℝ) : EReal) ≤ a ↔ k ≤ N)) :
    field a = BitVec.ofNat 32 N := by
  rw [field, ← fold_le ⟨N, by omega⟩]
  congr 1
  funext k
  rcases Nat.eq_zero_or_pos k.val with hk | hk
  · have : k = 0 := Fin.ext hk
    subst this
    simp [entry, Scalar.select]
  · have := h k.val hk (by omega)
    simp only [entry, ofBits_shl k.val hk (by omega), Ideal.cmp, Scalar.select, this]
    by_cases hle : k.val ≤ N <;> simp [hle]

/-- The two fields built from a found field `N`. -/
theorem scaleField_eq (a : EReal) (N : ℕ) (hN : N ≤ 247) (hf : field a = BitVec.ofNat 32 N) :
    scaleField a = BitVec.ofNat 32 (if N = 0 then 127 else N + 1) := by
  rw [scaleField, hf]
  have : ∀ N : Fin 248, Scalar.select (IntOp.cmpi .eq (BitVec.ofNat 32 N.val) 0#32) 127#32
      (IntOp.addi (BitVec.ofNat 32 N.val) 1#32) = BitVec.ofNat 32 (if N.val = 0 then 127 else N.val + 1) := by
    decide +kernel
  exact this ⟨N, by omega⟩

theorem sub_field : ∀ n : Fin 255, IntOp.subi 254#32 (BitVec.ofNat 32 n.val) = BitVec.ofNat 32 (254 - n.val) := by
  decide +kernel

/-- The kernel's scale and reciprocal from a found field `N` and the exponent `e` it stands for. -/
theorem k_eq (a : EReal) (N : ℕ) (e : ℤ) (hN : N ≤ 247) (hf : field a = BitVec.ofNat 32 N)
    (he : e = if N = 0 then 0 else (N : ℤ) - 126) :
    kScale a = (((2 : ℝ) ^ e : ℝ) : EReal) ∧ kInv a = (((2 : ℝ) ^ (-e) : ℝ) : EReal) := by
  have hs := scaleField_eq a N hN hf
  set n := if N = 0 then 127 else N + 1 with hn
  have hn1 : 1 ≤ n ∧ n ≤ 248 := by rw [hn]; split <;> omega
  have hen : e = (n : ℤ) - 127 := by rw [he, hn]; split <;> push_cast <;> omega
  constructor
  · rw [kScale, hs, ofBits_shl n hn1.1 (by omega), hen]
  · rw [kInv, hs, sub_field ⟨n, by omega⟩, ofBits_shl (254 - n) (by omega) (by omega), hen]
    congr 2
    omega

/-! ## The logarithm -/

/-- The reference's scale and reciprocal from its exponent. -/
theorem r_eq (a : EReal) (e : ℤ) (he : rExp a = ((e : ℝ) : EReal)) :
    rScale a = (((2 : ℝ) ^ e : ℝ) : EReal) ∧ rInv a = (((2 : ℝ) ^ (-e) : ℝ) : EReal) := by
  constructor
  · rw [rScale, he, Ideal.exp2_coe]
    congr 1
    exact Real.rpow_intCast 2 e
  · rw [rInv, he, c_zero, zero_sub, ← EReal.coe_neg, Ideal.exp2_coe]
    congr 1
    rw [← Int.cast_neg]
    exact Real.rpow_intCast 2 (-e)

/-- The integer part of the base-2 logarithm of a positive real. -/
def ilog (r : ℝ) : ℤ := ⌊Real.log r / Real.log 2⌋

theorem zpow_le_iff (r : ℝ) (hr : 0 < r) (e : ℤ) : (2 : ℝ) ^ e ≤ r ↔ e ≤ ilog r := by
  have hlog2 : 0 < Real.log 2 := Real.log_pos (by norm_num)
  rw [ilog, Int.le_floor, le_div_iff₀ hlog2, ← Real.log_zpow, Real.log_le_log_iff (by positivity) hr]

/-- A real at least `2^-126`: the reference's exponent by the integer part of the base-2 logarithm. -/
theorem rExp_coe (r : ℝ) (hr : (2 : ℝ) ^ (-126 : ℤ) ≤ r) : rExp r = (((min (ilog r + 1) 121 : ℤ) : ℝ) : EReal) := by
  have hpos : 0 < r := lt_of_lt_of_le (by positivity) hr
  have hlog2 : Real.log 2 ≠ 0 := (Real.log_pos (by norm_num)).ne'
  have hfloor : ⌊Real.log r / Real.log 2⌋ = ilog r := rfl
  unfold rExp
  rw [c_min, c_zero, c_one, c_two, c_cap]
  have hc : Ideal.cmp .olt (r : EReal) (((2 : ℝ) ^ (-126 : ℤ) : ℝ) : EReal) = 0#1 := by
    simp only [Ideal.cmp]
    rw [decide_eq_false (by rw [EReal.coe_lt_coe_iff]; exact not_lt.2 hr)]
    rfl
  rw [hc, Scalar.select, if_neg (by decide), Ideal.log_coe, Ideal.log_coe, if_neg (not_le.2 hpos), if_neg (by norm_num),
    Ideal.div_coe hlog2, ← EReal.coe_mul, Ideal.liftRound_coe, ← EReal.coe_add, mul_one_div, hfloor,
    ← EReal.coe_strictMono.monotone.map_min]
  push_cast
  rfl

theorem rExp_top : rExp ⊤ = ((121 : ℤ) : ℝ) := by
  unfold rExp
  rw [c_min, c_zero, c_one, c_two, c_cap]
  have hc : Ideal.cmp .olt (⊤ : EReal) (((2 : ℝ) ^ (-126 : ℤ) : ℝ) : EReal) = 0#1 := by
    simp [Ideal.cmp]
  have hlog2 : (0 : ℝ) < Real.log 2 := Real.log_pos (by norm_num)
  rw [hc, Scalar.select, if_neg (by decide), Ideal.log_top, Ideal.log_coe, if_neg (by norm_num),
    Ideal.div_coe hlog2.ne', EReal.top_mul_coe_of_pos (by positivity), Ideal.liftRound_top, EReal.top_add_coe]
  simp

theorem rExp_small (a : EReal) (h : a < (((2 : ℝ) ^ (-126 : ℤ) : ℝ) : EReal)) : rExp a = ((0 : ℤ) : ℝ) := by
  unfold rExp
  rw [c_min, c_zero]
  have hc : Ideal.cmp .olt a (((2 : ℝ) ^ (-126 : ℤ) : ℝ) : EReal) = 1#1 := by
    simp only [Ideal.cmp]
    rw [decide_eq_true h]
    rfl
  rw [hc, Scalar.select, if_pos (by decide)]
  simp

/-! ## Agreement -/

/-- On every `a ≥ 0` the kernel's scale and reciprocal are the reference's. -/
theorem agree (a : EReal) (ha : 0 ≤ a) : kScale a = rScale a ∧ kInv a = rInv a := by
  by_cases hsmall : a < (((2 : ℝ) ^ (-126 : ℤ) : ℝ) : EReal)
  · have hf : field a = BitVec.ofNat 32 0 := field_eq a 0 (by norm_num) fun k h1 _ => by
      constructor
      · intro h
        have : (((2 : ℝ) ^ (-126 : ℤ) : ℝ) : EReal) ≤ (((2 : ℝ) ^ ((k : ℤ) - 127) : ℝ) : EReal) := by
          rw [EReal.coe_le_coe_iff]
          exact zpow_le_zpow_right₀ (by norm_num) (by omega)
        exact absurd (this.trans h) (not_le.2 hsmall)
      · intro h; omega
    obtain ⟨k1, k2⟩ := k_eq a 0 0 (by norm_num) hf (by simp)
    obtain ⟨r1, r2⟩ := r_eq a 0 (rExp_small a hsmall)
    exact ⟨k1.trans r1.symm, k2.trans r2.symm⟩
  · rw [not_lt] at hsmall
    induction a using EReal.rec with
    | bot => simp at ha
    | top =>
      have hf : field ⊤ = BitVec.ofNat 32 247 := field_eq ⊤ 247 (by norm_num) fun k _ h2 => by simp [h2]
      obtain ⟨k1, k2⟩ := k_eq ⊤ 247 121 (by norm_num) hf (by norm_num)
      obtain ⟨r1, r2⟩ := r_eq ⊤ 121 rExp_top
      exact ⟨k1.trans r1.symm, k2.trans r2.symm⟩
    | coe r =>
      rw [EReal.coe_le_coe_iff] at hsmall
      have hpos : 0 < r := lt_of_lt_of_le (by positivity) hsmall
      have key : ∀ e : ℤ, (2 : ℝ) ^ e ≤ r ↔ e ≤ ilog r := zpow_le_iff r hpos
      have hL : (-126 : ℤ) ≤ ilog r := (key _).1 hsmall
      have hf : field r = BitVec.ofNat 32 (min (ilog r + 127) 247).toNat :=
        field_eq r _ (by omega) fun k h1 h2 => by
          rw [EReal.coe_le_coe_iff, key]
          omega
      obtain ⟨k1, k2⟩ := k_eq r _ (min (ilog r + 1) 121) (by omega) hf (by split <;> omega)
      obtain ⟨r1, r2⟩ := r_eq r _ (rExp_coe r hsmall)
      exact ⟨k1.trans r1.symm, k2.trans r2.symm⟩

end Cert.Pow2

end
-- ==== Proof.Target.lean ====
/-
  WHAT BOTH PROGRAMS COMPUTE: the keys and values of every token, quantised head by head.

  `proj` is one entry of the projection of a token by the stacked weight; the 64 entries of a head are quantised together:
  the scale is the power of two above a 448th of the largest magnitude, a code is the entry over the scale, clipped to ±448.
  Arrays are functions of their indices here, so that either program's layout can be read into them.
-/
module

public import proofs.«01_k».proof.Proof.Pow2

@[expose] public section

noncomputable section

namespace Cert.Target

open Idealize.ShloMosaic

/-- A 448th of the largest magnitude of a head. -/
def amax (v : Fin 64 → EReal) : EReal :=
  Finset.univ.fold max (Ideal.ofBits .f32 0xFF800000#32) (fun d => max (v d) (-(v d))) * Ideal.ofBits .f32 0x3B124925#32

/-- The scale of a head. -/
def scale (v : Fin 64 → EReal) : EReal := Pow2.rScale (amax v)

/-- The code of entry `d` of a head. -/
def code (v : Fin 64 → EReal) (d : Fin 64) : EReal :=
  min (Ideal.ofBits .f32 0x43E00000#32) (max (Ideal.ofBits .f32 0xC3E00000#32) (v d * Pow2.rInv (amax v)))

/-- Entry `r` of the projection of one token: the product with column `r` of the weight, times both scales. -/
def proj (x : Fin 1152 → EReal) (xs : EReal) (w : Fin 1152 → EReal) (ws : EReal) : EReal := (∑ k, w k * x k) * xs * ws

/-- A 448th of the largest of at least one magnitude is nonnegative: the fold is at least the first magnitude. -/
theorem amax_fold_nonneg {d : ℕ} (hd : 0 < d) (v : Fin d → EReal) : 0 ≤
    Finset.univ.fold max (Ideal.ofBits .f32 0xFF800000#32) (fun k => max (v k) (-(v k))) * Ideal.ofBits .f32 0x3B124925#32 := by
  refine mul_nonneg ?_ ?_
  · rw [Finset.le_fold_max]
    right
    refine ⟨⟨0, hd⟩, Finset.mem_univ _, ?_⟩
    rcases le_total 0 (v ⟨0, hd⟩) with h | h
    · exact le_max_of_le_left h
    · exact le_max_of_le_right (EReal.neg_nonneg.mpr h)
  · have : Ideal.ofBits .f32 0x3B124925#32 = ((9586981 * 2 ^ (-32 : ℤ) : ℝ) : EReal) := by
      simp [Ideal.ofBits, Ideal.ieee, -EReal.coe_mul]
    rw [this]
    exact_mod_cast (by positivity : (0 : ℝ) ≤ 9586981 * 2 ^ (-32 : ℤ))

theorem amax_nonneg (v : Fin 64 → EReal) : 0 ≤ amax v := amax_fold_nonneg (by norm_num) v

/-- The kernel's scale and its reciprocal are the reference's. -/
theorem kScale_amax (v : Fin 64 → EReal) : Pow2.kScale (amax v) = scale v := (Pow2.agree _ (amax_nonneg v)).1
theorem kInv_amax (v : Fin 64 → EReal) : Pow2.kInv (amax v) = Pow2.rInv (amax v) := (Pow2.agree _ (amax_nonneg v)).2

/-! ## The four results, as functions of the arguments

The arguments: the tokens `X` and their scales `XS`, the stacked weight `W` with one column per row of the results and its
column scales `WS`, the bias `B` of the values. -/

section
variable (X : (⟨3, ![4, 49152, 1152]⟩ : Shape).Idx → EReal) (XS : (⟨2, ![4, 49152]⟩ : Shape).Idx → EReal)
  (W : (⟨2, ![1152, 2048]⟩ : Shape).Idx → EReal) (WS : (⟨2, ![2048, 1]⟩ : Shape).Idx → EReal)
  (B : (⟨2, ![16, 64]⟩ : Shape).Idx → EReal)

/-- Key head `h` of token `s` of batch `b`. -/
def key (b : Fin 4) (h : Fin 16) (s : Fin 49152) (d : Fin 64) : EReal :=
  proj (fun k => X (ix3 b s k)) (XS (ix2 b s)) (fun k => W (ix2 k ⟨h.val * 64 + d.val, by omega⟩)) (WS (ix2 ⟨h.val * 64 + d.val, by omega⟩ 0))

/-- Value head `h` of token `s` of batch `b`. -/
def val (b : Fin 4) (h : Fin 16) (s : Fin 49152) (d : Fin 64) : EReal :=
  proj (fun k => X (ix3 b s k)) (XS (ix2 b s)) (fun k => W (ix2 k ⟨1024 + (h.val * 64 + d.val), by omega⟩))
    (WS (ix2 ⟨1024 + (h.val * 64 + d.val), by omega⟩ 0)) + B (ix2 h d)

end

/-- The codes of heads `v`, in the layout of the results: row `h * 64 + d` of batch `b`, token `s`. -/
def codesOf (v : Fin 4 → Fin 16 → Fin 49152 → Fin 64 → EReal) : (⟨3, ![4, 1024, 49152]⟩ : Shape).Idx → EReal := fun i =>
  code (v (i 0) ⟨(i 1).val / 64, Nat.div_lt_of_lt_mul (i 1).isLt⟩ (i 2)) ⟨(i 1).val % 64, Nat.mod_lt _ (by norm_num)⟩

/-- The scales of heads `v`. -/
def scalesOf (v : Fin 4 → Fin 16 → Fin 49152 → Fin 64 → EReal) : (⟨3, ![4, 16, 49152]⟩ : Shape).Idx → EReal := fun i =>
  scale (v (i 0) (i 1) (i 2))

end Cert.Target
-- ==== Proof.KernelBlock.lean ====
/-
  ONE GRID POINT'S OUTPUT BLOCKS, READ AT AN INDEX. The chain of operations of Units.lean at the ideal instance: a code or a
  scale of a block is the target's code or scale of the head's 64 entries, each a projection of one token of the block.
-/
module

public import proofs.«01_k».proof.Proof.Units
public import proofs.«01_k».proof.Proof.Target
public import Idealize.ShloMosaic.Lib.Pipeline.ValueKit

@[expose] public section

set_option maxRecDepth 16384

noncomputable section

namespace Cert.KernelBlock

open Cert.KernelIdeal Cert.KernelIdeal.Gen Cert.Units Idealize.ShloMosaic Idealize.ShloMosaic.TcCoe

/-- Column `t` of a head's tile. -/
abbrev col (v : FVec Ideal S64x128 .f32) (t : Fin 128) : Fin 64 → EReal := fun d => v (ix2 d t)

theorem amaxVec_apply (v : FVec Ideal S64x128 .f32) (t : Fin 128) : amaxVec v (ix2 0 t) = Target.amax (col v t) := by
  unfold amaxVec
  simp only [pointwise]
  rfl

theorem fieldVec_apply (a : FVec Ideal S1x128 .f32) (t : Fin 128) : fieldVec a (ix2 0 t) = Pow2.field (a (ix2 0 t)) := by
  unfold fieldVec Pow2.field
  simp only [pointwise]
  refine congrArg (fun f => Finset.fold IntOp.maxsi 2147483648#32 f Finset.univ) (funext fun k => ?_)
  have hk : List.foldl (fun n a => n * ![248, 128] a + ((ix2 k t a : Fin _) : ℕ)) 0 [0] = k.val := by
    show 0 * 248 + k.val = k.val
    omega
  rw [hk]
  unfold Pow2.entry
  simp only [pointwise]
  rfl

theorem scaleField_apply (v : FVec Ideal S64x128 .f32) (t : Fin 128) :
    scaleFieldVec (amaxVec v) (ix2 0 t) = Pow2.scaleField (Target.amax (col v t)) := by
  unfold scaleFieldVec Pow2.scaleField
  simp only [pointwise]
  rw [fieldVec_apply, amaxVec_apply]

/-- A scale of a piece. -/
theorem scaleVec_apply (v : FVec Ideal S64x128 .f32) (x : S1x1x128.Idx) :
    scaleVec v x = Target.scale (col v (x 2)) := by
  obtain ⟨a, b, t, rfl⟩ : ∃ a b t, x = ix3 a b t := ⟨x 0, x 1, x 2, eq_ix3 x⟩
  rw [← Target.kScale_amax]
  unfold scaleVec
  simp only [pointwise]
  rw [scaleField_apply]
  rfl

/-- A code of a piece. -/
theorem codeVec_apply (v : FVec Ideal S64x128 .f32) (x : S1x64x128.Idx) :
    codeVec v x = Target.code (col v (x 2)) (x 1) := by
  obtain ⟨a, d, t, rfl⟩ : ∃ a b t, x = ix3 a b t := ⟨x 0, x 1, x 2, eq_ix3 x⟩
  unfold codeVec
  simp only [pointwise]
  show min _ (max _ (_ * Ideal.ofBits .f32 (IntOp.shli .vector (IntOp.subi 254#32 (scaleFieldVec (amaxVec v) (ix2 0 t))) 23#32))) = _
  rw [scaleField_apply]
  show min _ (max _ (_ * Pow2.kInv _)) = _
  rw [Target.kInv_amax]
  rfl

theorem head_apply (x0 : Vec Ideal S1x1024x1152 .fp8e4m3) (x1 : Vec Ideal S1x1x1024 .f32) (x2 : Vec Ideal S2048x1152 .fp8e4m3)
    (x3 : Vec Ideal S2048x128 .f32) (r : Fin 32) (c : Fin 8) (d : Fin 64) (t : Fin 128) (s : Fin 1024) (j : Fin 2048)
    (hs : s.val = c.val * 128 + t.val) (hj : j.val = r.val * 64 + d.val) :
    head x0 x1 x2 x3 r c (ix2 d t)
      = Target.proj (fun k => x0 (ix3 0 s k)) (x1 (ix3 0 0 s)) (fun k => x2 (ix2 j k)) (x3 (ix2 j t)) := by
  unfold head prod
  simp only [pointwise]
  rw [zero_add]
  unfold Target.proj
  have e1 : r.val / 4 * 256 + 1 * (r.val % 4 * 64 + d.val) = j.val := by omega
  have e2 : r.val * 64 + 1 * d.val = j.val := by omega
  have e3 : 0 + 1 * (c.val * 128 + t.val) = s.val := by omega
  have e4 : c.val * 128 + 1 * t.val = s.val := by omega
  have e5 (n : ℕ) : 0 + 1 * n = n := by omega
  refine congrArg₂ (· * ·) (congrArg₂ (· * ·) (Finset.sum_congr rfl fun k _ => congrArg₂ (· * ·) ?_ ?_) ?_) ?_
  · exact congrArg x2 (congrArg₂ ix2 (Fin.ext e1) (Fin.ext (e5 _)))
  · exact congrArg x0 (congrArg₂ (ix3 0) (Fin.ext e3) (Fin.ext (e5 _)))
  · exact congrArg x1 (congrArg₂ (ix3 · 0 ·) (Fin.ext rfl) (Fin.ext e4))
  · exact congrArg x3 (congrArg₂ ix2 (Fin.ext e2) (Fin.ext (e5 _)))

/-- One entry of key head `h` of a block: a projection of one token. -/
abbrev keyRow (x0 : Vec Ideal S1x1024x1152 .fp8e4m3) (x1 : Vec Ideal S1x1x1024 .f32) (x2 : Vec Ideal S2048x1152 .fp8e4m3)
    (x3 : Vec Ideal S2048x128 .f32) (h : Fin 16) (s : Fin 1024) (t : Fin 128) (d : Fin 64) : EReal :=
  Target.proj (fun k => x0 (ix3 0 s k)) (x1 (ix3 0 0 s)) (fun k => x2 (ix2 ⟨h.val * 64 + d.val, by omega⟩ k))
    (x3 (ix2 ⟨h.val * 64 + d.val, by omega⟩ t))

/-- One entry of value head `h` of a block: a projection of one token, with its bias. -/
abbrev valRow (x0 : Vec Ideal S1x1024x1152 .fp8e4m3) (x1 : Vec Ideal S1x1x1024 .f32) (x2 : Vec Ideal S2048x1152 .fp8e4m3)
    (x3 : Vec Ideal S2048x128 .f32) (x4 : Vec Ideal S1024x128 .f32) (h : Fin 16) (s : Fin 1024) (t : Fin 128) (d : Fin 64) : EReal :=
  Target.proj (fun k => x0 (ix3 0 s k)) (x1 (ix3 0 0 s)) (fun k => x2 (ix2 ⟨1024 + (h.val * 64 + d.val), by omega⟩ k))
    (x3 (ix2 ⟨1024 + (h.val * 64 + d.val), by omega⟩ t)) + x4 (ix2 ⟨h.val * 64 + d.val, by omega⟩ t)

section
variable (x0 : Vec Ideal S1x1024x1152 .fp8e4m3) (x1 : Vec Ideal S1x1x1024 .f32) (x2 : Vec Ideal S2048x1152 .fp8e4m3)
  (x3 : Vec Ideal S2048x128 .f32) (x4 : Vec Ideal S1024x128 .f32)

theorem keyHead_col (h : Fin 16) (c : Fin 8) (t : Fin 128) (s : Fin 1024) (hs : s.val = c.val * 128 + t.val) :
    col (keyHead x0 x1 x2 x3 h c) t = keyRow x0 x1 x2 x3 h s t :=
  funext fun d => head_apply x0 x1 x2 x3 (kRow h) c d t s _ hs rfl

theorem valHead_col (h : Fin 16) (c : Fin 8) (t : Fin 128) (s : Fin 1024) (hs : s.val = c.val * 128 + t.val) :
    col (valHead x0 x1 x2 x3 x4 h c) t = valRow x0 x1 x2 x3 x4 h s t := by
  funext d
  show valHead x0 x1 x2 x3 x4 h c (ix2 d t) = _
  unfold valHead
  simp only [pointwise]
  refine congrArg₂ (· + ·) (head_apply x0 x1 x2 x3 (vRow h) c d t s _ hs ?_) ?_
  · show 1024 + (h.val * 64 + d.val) = (h.val + 16) * 64 + d.val
    omega
  · refine congrArg x4 (congrArg₂ ix2 (Fin.ext ?_) (Fin.ext ?_))
    · show h.val * 64 + 1 * d.val = h.val * 64 + d.val
      omega
    · show 0 + 1 * t.val = t.val
      omega

end

/-! ## The block at an index: the piece holding it -/

/-- The tile's lane of token `s` of the block. -/
abbrev lane (s : Fin 1024) : Fin 128 := ⟨s.val % 128, by omega⟩
/-- Head and entry of row `j` of a block of codes. -/
abbrev hOf (j : Fin 1024) : Fin 16 := ⟨j.val / 64, by omega⟩
abbrev dOf (j : Fin 1024) : Fin 64 := ⟨j.val % 64, by omega⟩

/-- A block of codes whose heads are known column by column. -/
theorem codes_apply (v : Fin 16 → Fin 8 → FVec Ideal S64x128 .f32) (R : Fin 16 → Fin 1024 → Fin 128 → Fin 64 → EReal)
    (hv : ∀ h c t (s : Fin 1024), s.val = c.val * 128 + t.val → col (v h c) t = R h s t) (y : S1x1024x1024.Idx) :
    codes v y = Target.code (R (hOf (y 1)) (y 2) (lane (y 2))) (dOf (y 1)) := by
  unfold codes
  refine View.canon_ofFn_unit_eq_of_forall (Val := Elt Ideal) (S := S1x1024x1024) (e := .fp8e4m3) (fun k : Fin 128 => offC k.rev) S1x64x128.size (fun k => inbC k.rev)
    (fun k => codeVec (v (hd k.rev) (tl k.rev))) y _ ?_ ?_
  · have h0 : (y 0).val < 1 := (y 0).isLt
    have h1 : (y 1).val < 1024 := (y 1).isLt
    have h2 : (y 2).val < 1024 := (y 2).isLt
    refine ⟨Fin.rev ⟨(y 1).val / 64 * 8 + (y 2).val / 128, by omega⟩, ?_⟩
    rw [Fin.rev_rev]
    intro a
    fin_cases a
    · show 0 ≤ (y 0).val ∧ (y 0).val < 0 + 1
      omega
    · show ((y 1).val / 64 * 8 + (y 2).val / 128) / 8 * 64 ≤ (y 1).val ∧ (y 1).val < ((y 1).val / 64 * 8 + (y 2).val / 128) / 8 * 64 + 64
      omega
    · show ((y 1).val / 64 * 8 + (y 2).val / 128) % 8 * 128 ≤ (y 2).val ∧ (y 2).val < ((y 1).val / 64 * 8 + (y 2).val / 128) % 8 * 128 + 128
      omega
  · intro k
    generalize k.rev = n
    intro x hx
    have h1 : (y 1).val = n.val / 8 * 64 + (x 1).val := hx 1
    have h2 : (y 2).val = n.val % 8 * 128 + (x 2).val := hx 2
    have l1 : (x 1).val < 64 := (x 1).isLt
    have l2 : (x 2).val < 128 := (x 2).isLt
    rw [codeVec_apply, hv (hd n) (tl n) (x 2) (y 2) h2]
    have a1 : hd n = hOf (y 1) := Fin.ext (by show n.val / 8 = (y 1).val / 64; omega)
    have a2 : (x 2 : Fin 128) = lane (y 2) := Fin.ext (by show (x 2).val = (y 2).val % 128; omega)
    have a3 : (x 1 : Fin 64) = dOf (y 1) := Fin.ext (by show (x 1).val = (y 1).val % 64; omega)
    rw [a1, a2, a3]

/-- A block of scales whose heads are known column by column. -/
theorem scales_apply (v : Fin 16 → Fin 8 → FVec Ideal S64x128 .f32) (R : Fin 16 → Fin 1024 → Fin 128 → Fin 64 → EReal)
    (hv : ∀ h c t (s : Fin 1024), s.val = c.val * 128 + t.val → col (v h c) t = R h s t) (y : S1x16x1024.Idx) :
    scales v y = Target.scale (R (y 1) (y 2) (lane (y 2))) := by
  unfold scales
  refine View.canon_ofFn_unit_eq_of_forall (Val := Elt Ideal) (S := S1x16x1024) (e := .f32) (fun k : Fin 128 => offE k.rev) S1x1x128.size (fun k => inbE k.rev)
    (fun k => scaleVec (v (hd k.rev) (tl k.rev))) y _ ?_ ?_
  · have h0 : (y 0).val < 1 := (y 0).isLt
    have h1 : (y 1).val < 16 := (y 1).isLt
    have h2 : (y 2).val < 1024 := (y 2).isLt
    refine ⟨Fin.rev ⟨(y 1).val * 8 + (y 2).val / 128, by omega⟩, ?_⟩
    rw [Fin.rev_rev]
    intro a
    fin_cases a
    · show 0 ≤ (y 0).val ∧ (y 0).val < 0 + 1
      omega
    · show ((y 1).val * 8 + (y 2).val / 128) / 8 ≤ (y 1).val ∧ (y 1).val < ((y 1).val * 8 + (y 2).val / 128) / 8 + 1
      omega
    · show ((y 1).val * 8 + (y 2).val / 128) % 8 * 128 ≤ (y 2).val ∧ (y 2).val < ((y 1).val * 8 + (y 2).val / 128) % 8 * 128 + 128
      omega
  · intro k
    generalize k.rev = n
    intro x hx
    have h1 : (y 1).val = n.val / 8 + (x 1).val := hx 1
    have h2 : (y 2).val = n.val % 8 * 128 + (x 2).val := hx 2
    have l1 : (x 1).val < 1 := (x 1).isLt
    have l2 : (x 2).val < 128 := (x 2).isLt
    rw [scaleVec_apply, hv (hd n) (tl n) (x 2) (y 2) h2]
    have a1 : hd n = y 1 := Fin.ext (by show n.val / 8 = (y 1).val; omega)
    have a2 : (x 2 : Fin 128) = lane (y 2) := Fin.ext (by show (x 2).val = (y 2).val % 128; omega)
    rw [a1, a2]

end Cert.KernelBlock
-- ==== Proof.KernelArrays.lean ====
/-
  THE PROJECTION KERNEL'S FOUR RESULT ARRAYS. Grid point `(b, i)` handles tokens `1024 i … 1024 i + 1023` of batch `b`; its
  blocks tile the arrays, so each array is the target's function of the arguments.
-/
module

public import proofs.«01_k».proof.Proof.KernelBlock
public import proofs.«01_k».proof.Proof.Gen.KernelIdeal.Value

@[expose] public section

set_option maxRecDepth 16384

noncomputable section

namespace Cert.KernelArrays

open Cert.KernelIdeal Cert.KernelIdeal.Gen Cert.Units Cert.KernelBlock Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments as the target takes them -/

abbrev X (c : Dev nD) : S4x49152x1152.Idx → EReal := m ((c : Thread nD τ).loc main_arg0)
abbrev XS (c : Dev nD) : S4x49152.Idx → EReal := m ((c : Thread nD τ).loc main_arg1)
abbrev W (c : Dev nD) : S1152x2048.Idx → EReal :=
  shapeCast (s := S1152x2x16x64) S1152x2048 (m ((c : Thread nD τ).loc main_arg2)) shapeCasts_S1152x2x16x64_S1152x2048
abbrev WS (c : Dev nD) : S2048x1.Idx → EReal :=
  shapeCast (s := S2x16x64) S2048x1 (m ((c : Thread nD τ).loc main_arg3)) shapeCasts_S2x16x64_S2048x1
abbrev B (c : Dev nD) : S16x64.Idx → EReal := m ((c : Thread nD τ).loc main_arg4)

/-! ## The arrays the host operations leave to the kernel -/

theorem V_v0 (c : Dev nD) : V m c main_v0 = shapeCast (s := S4x49152) S4x1x49152 (XS m c) shapeCasts_S4x49152_S4x1x49152 := by
  show StableHlo.after hostOps0 (fun b => m (c, b)) (Proc.devRef .tc main_v0) = _
  after_results
  rfl

theorem V_v2 (c : Dev nD) : V m c main_v2 = transpose S2048x1152 [1, 0] (W m c) transposes_S1152x2048_S2048x1152_1_0 := by
  show StableHlo.after hostOps0 (fun b => m (c, b)) (Proc.devRef .tc main_v2) = _
  after_results
  rfl

theorem V_v4 (c : Dev nD) : V m c main_v4 = broadcastInDim S2048x128 ![0, 1] bcast_S2048x1_S2048x128_0_1 (WS m c) := by
  show StableHlo.after hostOps0 (fun b => m (c, b)) (Proc.devRef .tc main_v4) = _
  after_results
  rfl

theorem V_v6 (c : Dev nD) : V m c main_v6 = broadcastInDim S1024x128 ![0, 1] bcast_S1024x1_S1024x128_0_1
    (shapeCast (s := S16x64) S1024x1 (B m c) shapeCasts_S16x64_S1024x1) := by
  show StableHlo.after hostOps0 (fun b => m (c, b)) (Proc.devRef .tc main_v6) = _
  after_results
  rfl

/-- Row `h * 64 + d` of the bias, stood up as a column, is entry `(h, d)`. -/
theorem bias_apply (v : S16x64.Idx → EReal) (h : Fin 16) (d : Fin 64) (j : Fin 1024) (hj : j.val = h.val * 64 + d.val) :
    shapeCast (s := S16x64) S1024x1 v shapeCasts_S16x64_S1024x1 (ix2 j 0) = v (ix2 h d) := by
  simp only [pointwise]
  exact congrArg v (congrArg₂ ix2 (Fin.ext (by show j.val / 64 = h.val; omega)) (Fin.ext (by show j.val % 64 = d.val; omega)))

/-! ## The blocks at coordinates -/

theorem idx0 : ∀ t : Fin cfg0.N, win0_0.index t = ![t.val / 48, t.val % 48, 0] := (by decide +kernel : ∀ t : Fin grid0.N, _)
theorem idx1 : ∀ t : Fin cfg0.N, win0_1.index t = ![t.val / 48, 0, t.val % 48] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 48, 0, t.val % 48] := (by decide +kernel : ∀ t : Fin grid0.N, _)
theorem idx6 : ∀ t : Fin cfg0.N, win0_6.index t = ![t.val / 48, 0, t.val % 48] := (by decide +kernel : ∀ t : Fin grid0.N, _)
theorem idx7 : ∀ t : Fin cfg0.N, win0_7.index t = ![t.val / 48, 0, t.val % 48] := (by decide +kernel : ∀ t : Fin grid0.N, _)
theorem idx8 : ∀ t : Fin cfg0.N, win0_8.index t = ![t.val / 48, 0, t.val % 48] := (by decide +kernel : ∀ t : Fin grid0.N, _)

/-- Batch and token of a grid point's token `s`. -/
abbrev bat (t : Fin cfg0.N) : Fin 4 := ⟨t.val / 48, by have : t.val < 192 := t.isLt; omega⟩
abbrev tok (t : Fin cfg0.N) (s : Fin 1024) : Fin 49152 := ⟨t.val % 48 * 1024 + s.val, by omega⟩

theorem x_apply (c : Dev nD) (t : Fin cfg0.N) (s : Fin 1024) (k : Fin 1152) :
    (iblk m c 0 t : Vec Ideal S1x1024x1152 .fp8e4m3) (ix3 0 s k) = X m c (ix3 (bat t) (tok t s) k) := by
  blk_simp [iblk]
  rw [V_main_arg0]
  refine congrArg (X m c) ?_
  blk_ext [idx0]

theorem xs_apply (c : Dev nD) (t : Fin cfg0.N) (s : Fin 1024) :
    (iblk m c 1 t : Vec Ideal S1x1x1024 .f32) (ix3 0 0 s) = XS m c (ix2 (bat t) (tok t s)) := by
  blk_simp [iblk]
  have h : ((win0_1.blk t).view.emb (ix3 0 0 s) : S4x1x49152.Idx) = ix3 (bat t) 0 (tok t s) := by blk_ext [idx1]
  rw [V_v0]
  refine (congrArg _ h).trans ?_
  simp only [pointwise]

theorem w_apply (c : Dev nD) (t : Fin cfg0.N) (j : Fin 2048) (k : Fin 1152) :
    (iblk m c 2 t : Vec Ideal S2048x1152 .fp8e4m3) (ix2 j k) = W m c (ix2 k j) := by
  blk_simp [iblk]
  have h : ((win0_2.blk t).view.emb (ix2 j k) : S2048x1152.Idx) = ix2 j k := by blk_ext [idx2]
  rw [V_v2]
  refine (congrArg _ h).trans ?_
  simp only [pointwise]

theorem ws_apply (c : Dev nD) (t : Fin cfg0.N) (j : Fin 2048) (l : Fin 128) :
    (iblk m c 3 t : Vec Ideal S2048x128 .f32) (ix2 j l) = WS m c (ix2 j 0) := by
  blk_simp [iblk]
  have h : ((win0_3.blk t).view.emb (ix2 j l) : S2048x128.Idx) = ix2 j l := by blk_ext [idx3]
  rw [V_v4]
  refine (congrArg _ h).trans ?_
  generalize WS m c = w
  simp only [pointwise]
  rfl

theorem b_apply (c : Dev nD) (t : Fin cfg0.N) (h : Fin 16) (d : Fin 64) (l : Fin 128) :
    (iblk m c 4 t : Vec Ideal S1024x128 .f32) (ix2 ⟨h.val * 64 + d.val, by omega⟩ l) = B m c (ix2 h d) := by
  blk_simp [iblk]
  have e (j : Fin 1024) : ((win0_4.blk t).view.emb (ix2 j l) : S1024x128.Idx) = ix2 j l := by blk_ext [idx4]
  rw [V_v6]
  refine (congrArg _ (e _)).trans ?_
  refine Eq.trans ?_ (bias_apply (B m c) h d ⟨h.val * 64 + d.val, by omega⟩ rfl)
  generalize shapeCast (s := S16x64) S1024x1 (B m c) shapeCasts_S16x64_S1024x1 = w
  simp only [pointwise]
  rfl

/-! ## The heads of a block are the heads of the target -/

abbrev keys (c : Dev nD) : Fin 4 → Fin 16 → Fin 49152 → Fin 64 → EReal := Target.key (X m c) (XS m c) (W m c) (WS m c)
abbrev vals (c : Dev nD) : Fin 4 → Fin 16 → Fin 49152 → Fin 64 → EReal := Target.val (X m c) (XS m c) (W m c) (WS m c) (B m c)

theorem keyRow_eq (c : Dev nD) (t : Fin cfg0.N) (h : Fin 16) (s : Fin 1024) (l : Fin 128) :
    keyRow (iblk m c 0 t) (iblk m c 1 t) (iblk m c 2 t) (iblk m c 3 t) h s l = keys m c (bat t) h (tok t s) := by
  funext d
  show Target.proj _ _ _ _ = Target.proj _ _ _ _
  rw [xs_apply, ws_apply, funext (x_apply m c t s), funext (w_apply m c t _)]

theorem valRow_eq (c : Dev nD) (t : Fin cfg0.N) (h : Fin 16) (s : Fin 1024) (l : Fin 128) :
    valRow (iblk m c 0 t) (iblk m c 1 t) (iblk m c 2 t) (iblk m c 3 t) (iblk m c 4 t) h s l = vals m c (bat t) h (tok t s) := by
  funext d
  show Target.proj _ _ _ _ + _ = Target.proj _ _ _ _ + _
  rw [xs_apply, ws_apply, funext (x_apply m c t s), funext (w_apply m c t _), b_apply]

/-! ## The result arrays -/

/-- The key codes. -/
theorem final5 (c : Dev nD) : (dats m 0 c).arrAt 5 cfg0.N = Target.codesOf (keys m c) := by
  refine (dats m 0 c).arrAt_eq_of_covers 5 _ (by decide +kernel) fun t _ y => ?_
  blk_simp
  rw [after0_5, out5_eq]
  have e : ((win0_5.blk t).view.emb y : S4x1024x49152.Idx) = ix3 (bat t) (y 1) (tok t (y 2)) := by blk_ext [idx5]
  rw [e]
  exact (codes_apply _ _ (fun h l s a hs => keyHead_col _ _ _ _ h l s a hs) y).trans (congrArg (fun v => Target.code v _) (keyRow_eq m c t _ _ _))

/-- The key scales. -/
theorem final6 (c : Dev nD) : (dats m 0 c).arrAt 6 cfg0.N = Target.scalesOf (keys m c) := by
  refine (dats m 0 c).arrAt_eq_of_covers 6 _ (by decide +kernel) fun t _ y => ?_
  blk_simp
  rw [after0_6, out6_eq]
  have e : ((win0_6.blk t).view.emb y : S4x16x49152.Idx) = ix3 (bat t) (y 1) (tok t (y 2)) := by blk_ext [idx6]
  rw [e]
  exact (scales_apply _ _ (fun h l s a hs => keyHead_col _ _ _ _ h l s a hs) y).trans (congrArg (Target.scale) (keyRow_eq m c t _ _ _))

/-- The value codes. -/
theorem final7 (c : Dev nD) : (dats m 0 c).arrAt 7 cfg0.N = Target.codesOf (vals m c) := by
  refine (dats m 0 c).arrAt_eq_of_covers 7 _ (by decide +kernel) fun t _ y => ?_
  blk_simp
  rw [after0_7, out7_eq]
  have e : ((win0_7.blk t).view.emb y : S4x1024x49152.Idx) = ix3 (bat t) (y 1) (tok t (y 2)) := by blk_ext [idx7]
  rw [e]
  exact (codes_apply _ _ (fun h l s a hs => valHead_col _ _ _ _ _ h l s a hs) y).trans (congrArg (fun v => Target.code v _) (valRow_eq m c t _ _ _))

/-- The value scales. -/
theorem final8 (c : Dev nD) : (dats m 0 c).arrAt 8 cfg0.N = Target.scalesOf (vals m c) := by
  refine (dats m 0 c).arrAt_eq_of_covers 8 _ (by decide +kernel) fun t _ y => ?_
  blk_simp
  rw [after0_8, out8_eq]
  have e : ((win0_8.blk t).view.emb y : S4x16x49152.Idx) = ix3 (bat t) (y 1) (tok t (y 2)) := by blk_ext [idx8]
  rw [e]
  exact (scales_apply _ _ (fun h l s a hs => valHead_col _ _ _ _ _ h l s a hs) y).trans (congrArg (Target.scale) (valRow_eq m c t _ _ _))

/-- THE RUN: the four results at the target's functions of the arguments, the arguments unchanged. -/
theorem run : θ_run defs (onTc (τ := τ) (main (F := Ideal))) ⟨m, fun _ => 0, ρ⟩ fun r => ∀ c : Dev nD,
      r.2.mem ((c : Thread nD τ).loc main_v7_0) = Target.codesOf (keys m c)
      ∧ r.2.mem ((c : Thread nD τ).loc main_v7_1) = Target.scalesOf (keys m c)
      ∧ r.2.mem ((c : Thread nD τ).loc main_v7_2) = Target.codesOf (vals m c)
      ∧ r.2.mem ((c : Thread nD τ).loc main_v7_3) = Target.scalesOf (vals m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    have := h c
    rw [final5, final6, final7, final8] at this
    exact this) (Cert.KernelIdeal.Value.run_blocks m ρ)

end Cert.KernelArrays
-- ==== Proof.RefBatch.lean ====
/-
  THE REFERENCE'S QUANTISER, READ AT AN INDEX, over any number `n` of tokens. The operations of one batch act on arrays of 16
  heads of 64 entries for `n` tokens; a code or a scale is the target's, of the head's 64 entries.
-/
module

public import proofs.«01_k».proof.Proof.Target
public import Idealize.ShloMosaic.Lib.Pipeline.ValueKit

@[expose] public section

set_option maxRecDepth 16384

noncomputable section

namespace Cert.RefBatch

open Idealize.ShloMosaic Idealize.ShloMosaic.TcCoe

variable {n : ℕ}

/-- The shapes: the heads of a batch, one number per head and token, the codes of a batch. -/
abbrev H (n : ℕ) : Shape := ⟨3, ![16, 64, n]⟩
abbrev P (n : ℕ) : Shape := ⟨2, ![16, n]⟩
abbrev P1 (n : ℕ) : Shape := ⟨3, ![16, 1, n]⟩
abbrev C (n : ℕ) : Shape := ⟨2, ![1024, n]⟩

/-! ## Reshapes and broadcasts at an index -/

/-- A block with a leading unit axis added. -/
theorem addUnit_apply {α : Type} {k : ℕ} (hc : Shape.ShapeCasts ⟨2, ![k, n]⟩ ⟨3, ![1, k, n]⟩) (v : (⟨2, ![k, n]⟩ : Shape).Idx → α)
    (a : Fin 1) (j : Fin k) (s : Fin n) : shapeCast (s := ⟨2, ![k, n]⟩) ⟨3, ![1, k, n]⟩ v hc (ix3 a j s) = v (ix2 j s) := by
  refine shapeCast_apply v hc (ix3 a j s) (ix2 j s) ?_
  rw [Shape.rowMajor_val_two, Shape.rowMajor_val_three]
  show j.val * n + s.val = (a.val * k + j.val) * n + s.val
  have : a.val = 0 := by omega
  rw [this]
  simp

/-- Heads and entries merged into rows. -/
theorem merge_apply {α : Type} (hc : Shape.ShapeCasts (H n) (C n)) (v : (H n).Idx → α)
    (j : Fin 1024) (s : Fin n) (h : Fin 16) (d : Fin 64) (hj : j.val = h.val * 64 + d.val) :
    shapeCast (s := H n) (C n) v hc (ix2 j s) = v (ix3 h d s) := by
  refine shapeCast_apply v hc (ix2 j s) (ix3 h d s) ?_
  rw [Shape.rowMajor_val_two, Shape.rowMajor_val_three]
  show (h.val * 64 + d.val) * n + s.val = j.val * n + s.val
  rw [hj]

/-- One number per head and token, spread over the head's entries. -/
theorem spread_apply {α : Type} (hn : n ≠ 1) (hc : Shape.ShapeCasts (P n) (P1 n)) (hb : Shape.Broadcasts (P1 n) (H n))
    (v : (P n).Idx → α) (h : Fin 16) (d : Fin 64) (s : Fin n) :
    broadcastTo (H n) (shapeCast (s := P n) (P1 n) v hc) hb (ix3 h d s) = v (ix2 h s) := by
  refine (broadcastTo_apply _ hb (ix3 h d s) (ix3 h 0 s) fun a => ?_).trans (shapeCast_apply v hc _ _ ?_)
  · match a with
    | ⟨0, _⟩ => rfl
    | ⟨1, _⟩ => rfl
    | ⟨2, _⟩ =>
      show s.val = if n = 1 then 0 else s.val
      rw [if_neg hn]
  · rw [Shape.rowMajor_val_two, Shape.rowMajor_val_three]
    show h.val * n + s.val = (h.val * 1 + 0) * n + s.val
    rw [Nat.mul_one, Nat.add_zero]

/-- One number per head and entry, spread over the tokens. -/
theorem spreadTokens_apply {α : Type} (hc : Shape.ShapeCasts ⟨2, ![16, 64]⟩ ⟨3, ![16, 64, 1]⟩) (hb : Shape.Broadcasts ⟨3, ![16, 64, 1]⟩ (H n))
    (v : (⟨2, ![16, 64]⟩ : Shape).Idx → α) (h : Fin 16) (d : Fin 64) (s : Fin n) :
    broadcastTo (H n) (shapeCast (s := ⟨2, ![16, 64]⟩) ⟨3, ![16, 64, 1]⟩ v hc) hb (ix3 h d s) = v (ix2 h d) := by
  refine (broadcastTo_apply _ hb (ix3 h d s) (ix3 h d 0) fun a => ?_).trans (shapeCast_apply v hc _ _ ?_)
  · match a with
    | ⟨0, _⟩ => rfl
    | ⟨1, _⟩ => rfl
    | ⟨2, _⟩ => rfl
  · rw [Shape.rowMajor_val_two, Shape.rowMajor_val_three]
    show h.val * 64 + d.val = (h.val * 64 + d.val) * 1 + 0
    omega

/-- A run of 16 heads out of 32. -/
theorem slice_apply {α : Type} (o : ℕ) (hs : Shape.Slices ⟨3, ![32, 64, n]⟩ ![o, 0, 0] (H n)) (v : (⟨3, ![32, 64, n]⟩ : Shape).Idx → α)
    (h : Fin 16) (d : Fin 64) (s : Fin n) (r : Fin 32) (hr : r.val = o + h.val) :
    extractStridedSlice (H n) ![o, 0, 0] v hs (ix3 h d s) = v (ix3 r d s) := by
  refine extractStridedSlice_apply _ v hs _ _ fun a => ?_
  match a with
  | ⟨0, _⟩ => exact hr
  | ⟨1, _⟩ => exact (Nat.zero_add _).symm
  | ⟨2, _⟩ => exact (Nat.zero_add _).symm

/-! ## The quantiser at an index -/

/-- The 64 entries of head `h` of token `s`. -/
abbrev col (v : FVec Ideal (H n) .f32) (h : Fin 16) (s : Fin n) : Fin 64 → EReal := fun d => v (ix3 h d s)

/-- A 448th of the largest magnitude of each head. -/
def amaxVec (hr : (H n).Reduces [1] (P n)) (v : FVec Ideal (H n) .f32) : FVec Ideal (P n) .f32 :=
  mulf (multiReduction .maximumf [1] (P n) (absf v) 0xFF800000#32 hr (.inl rfl) rfl) (broadcast (P n) (Scalar.ofBits .f32 0x3B124925#32))

theorem amaxVec_apply (hr : (H n).Reduces [1] (P n)) (v : FVec Ideal (H n) .f32) (h : Fin 16) (s : Fin n) :
    amaxVec hr v (ix2 h s) = Target.amax (col v h s) := by
  unfold amaxVec
  simp only [pointwise]
  rfl

/-- The exponent of each head's scale. -/
def expVec (a : FVec Ideal (P n) .f32) : FVec Ideal (P n) .f32 :=
  select (cmpf .olt a (broadcast (P n) (Scalar.ofBits .f32 0x00800000#32)))
    (broadcast (P n) (Scalar.ofBits .f32 0x00000000#32))
    (minimumf (addf (floor (divf (log a) (log (broadcast (P n) (Scalar.ofBits .f32 0x40000000#32)))))
        (broadcast (P n) (Scalar.ofBits .f32 0x3F800000#32)))
      (broadcast (P n) (Scalar.ofBits .f32 0x42F20000#32)))

theorem expVec_apply (a : FVec Ideal (P n) .f32) (j : (P n).Idx) : expVec a j = Pow2.rExp (a j) := by
  unfold expVec Pow2.rExp
  simp only [pointwise]

/-- The scales of a batch. -/
theorem scale_apply (hr : (H n).Reduces [1] (P n)) (hc : (P n).ShapeCasts ⟨3, ![1, 16, n]⟩) (v : FVec Ideal (H n) .f32)
    (a : Fin 1) (h : Fin 16) (s : Fin n) :
    shapeCast (s := P n) ⟨3, ![1, 16, n]⟩ (exp2 (expVec (amaxVec hr v))) hc (ix3 a h s) = Target.scale (col v h s) := by
  rw [addUnit_apply]
  show Ideal.exp2 (expVec (amaxVec hr v) (ix2 h s)) = _
  rw [expVec_apply, amaxVec_apply]
  rfl

/-- The codes of a batch. -/
theorem code_apply (hn : n ≠ 1) (hr : (H n).Reduces [1] (P n)) (h1 : (P n).ShapeCasts (P1 n)) (h2 : (P1 n).Broadcasts (H n))
    (h3 : (H n).ShapeCasts (C n)) (h4 : (C n).ShapeCasts ⟨3, ![1, 1024, n]⟩) (hb : FTy.fp8e4m3.bits < FTy.f32.bits)
    (v : FVec Ideal (H n) .f32) (a : Fin 1) (j : Fin 1024) (s : Fin n) (h : Fin 16) (d : Fin 64) (hj : j.val = h.val * 64 + d.val) :
    shapeCast (s := C n) ⟨3, ![1, 1024, n]⟩ (shapeCast (s := H n) (C n) (truncf .fp8e4m3
      (minimumf (broadcast (H n) (Scalar.ofBits .f32 0x43E00000#32))
        (maximumf (broadcast (H n) (Scalar.ofBits .f32 0xC3E00000#32))
          (mulf v (broadcastTo (H n)
            (shapeCast (s := P n) (P1 n) (exp2 (subf (broadcast (P n) (Scalar.ofBits .f32 0x00000000#32)) (expVec (amaxVec hr v)))) h1) h2)))) hb)
        h3) h4 (ix3 a j s)
      = Target.code (col v h s) d := by
  rw [addUnit_apply, merge_apply h3 _ j s h d hj]
  show min (Ideal.ofBits .f32 0x43E00000#32) (max (Ideal.ofBits .f32 0xC3E00000#32) (v (ix3 h d s) * broadcastTo (H n) _ h2 (ix3 h d s))) = _
  rw [spread_apply hn]
  show min _ (max _ (_ * Ideal.exp2 (Ideal.ofBits .f32 0x00000000#32 - expVec (amaxVec hr v) (ix2 h s)))) = _
  rw [expVec_apply, amaxVec_apply]
  rfl

end Cert.RefBatch
-- ==== Proof.RefUnits.lean ====
/-
  THE REFERENCE, READ AS A FAMILY. The reference handles one batch after another over whole arrays: the projection, cut
  into heads, and the quantiser over each head. Here its operations for batch `b` are written once, and each generated result
  is shown to be the family of its four batches.
-/
module

public import proofs.«01_k».proof.Proof.Gen.ReferenceIdeal.Frame

@[expose] public section

set_option maxRecDepth 16384

noncomputable section

namespace Cert.RefUnits

open Cert.ReferenceIdeal Cert.ReferenceIdeal.Gen Idealize.ShloMosaic Idealize.ShloMosaic.TcCoe Idealize.SL.Sem
open Idealize.ShloMosaic.Pipeline (Dat)

/-! ## The operations of one batch -/

section
variable {F : FTy → Type} [FloatOps F]

abbrev off3 (b : Fin 4) : Fin 3 → Nat := ![b.val, 0, 0]
abbrev off2 (b : Fin 4) : Fin 2 → Nat := ![b.val, 0]
theorem inbX (b : Fin 4) : ∀ a, off3 b a + S1x49152x1152.size a ≤ S4x49152x1152.size a := by revert b; decide
theorem inbXS (b : Fin 4) : ∀ a, off2 b a + S1x49152.size a ≤ S4x49152.size a := by revert b; decide
theorem inbC (b : Fin 4) : ∀ a, off3 b a + S1x1024x49152.size a ≤ S4x1024x49152.size a := by revert b; decide
theorem inbE (b : Fin 4) : ∀ a, off3 b a + S1x16x49152.size a ≤ S4x16x49152.size a := by revert b; decide

section
variable (x0 : Vec F S4x49152x1152 .fp8e4m3) (x1 : Vec F S4x49152 .f32) (x2 : Vec F S1152x2048 .fp8e4m3)
  (x3 : Vec F S2048x1 .f32) (x4 : Vec F S16x64 .f32)

/-- The projection of batch `b`, cut into 32 heads. -/
def heads (b : Fin 4) : FVec F S32x64x49152 .f32 :=
  shapeCast S32x64x49152
    (mulf (mulf
        (matmul dot_S1152x2048_S49152x1152_S2048x49152_0_1_1_0_n_n none
          (shapeCast S1152x2048 (View.ld x2 r0_0) shapeCasts_S1152x2048_S1152x2048)
          (shapeCast S49152x1152 (View.ld x0 (Rect.unit (s := S4x49152x1152) (off3 b) S1x49152x1152.size (inbX b))) shapeCasts_S1x49152x1152_S49152x1152)
          (constant S2048x49152 .f32 0x00000000#32))
        (broadcastTo S2048x49152 (View.ld x1 (Rect.unit (s := S4x49152) (off2 b) S1x49152.size (inbXS b))) broadcasts_S1x49152_S2048x49152))
      (broadcastTo S2048x49152 (shapeCast S2048x1 (View.ld x3 r0_3) shapeCasts_S2048x1_S2048x1) broadcasts_S2048x1_S2048x49152))
    shapeCasts_S2048x49152_S32x64x49152

/-- The key heads of batch `b`. -/
def keyHeads (b : Fin 4) : FVec F S16x64x49152 .f32 :=
  extractStridedSlice S16x64x49152 ![0, 0, 0] (heads x0 x1 x2 x3 b) slices_S32x64x49152_o0_0_0_S16x64x49152

/-- The value heads of batch `b`, with the bias. -/
def valHeads (b : Fin 4) : FVec F S16x64x49152 .f32 :=
  addf (extractStridedSlice S16x64x49152 ![16, 0, 0] (heads x0 x1 x2 x3 b) slices_S32x64x49152_o16_0_0_S16x64x49152)
    (broadcastTo S16x64x49152 (shapeCast S16x64x1 (View.ld x4 r0_4) shapeCasts_S16x64_S16x64x1) broadcasts_S16x64x1_S16x64x49152)

end

/-- A 448th of the largest magnitude of each head. -/
def amaxVec (v : FVec F S16x64x49152 .f32) : FVec F S16x49152 .f32 :=
  mulf (multiReduction .maximumf [1] S16x49152 (absf v) 0xFF800000#32 reduces_S16x64x49152_S16x49152 (.inl rfl) rfl)
    (broadcast S16x49152 (Scalar.ofBits .f32 0x3B124925#32))

/-- The exponent of each head's scale. -/
def expVec (a : FVec F S16x49152 .f32) : FVec F S16x49152 .f32 :=
  select (cmpf .olt a (broadcast S16x49152 (Scalar.ofBits .f32 0x00800000#32)))
    (broadcast S16x49152 (Scalar.ofBits .f32 0x00000000#32))
    (minimumf (addf (floor (divf (log a) (log (broadcast S16x49152 (Scalar.ofBits .f32 0x40000000#32)))))
        (broadcast S16x49152 (Scalar.ofBits .f32 0x3F800000#32)))
      (broadcast S16x49152 (Scalar.ofBits .f32 0x42F20000#32)))

/-- The scales of a batch, as stored. -/
def scaleVec (v : FVec F S16x64x49152 .f32) : FVec F S1x16x49152 .f32 :=
  shapeCast S1x16x49152 (exp2 (expVec (amaxVec v))) shapeCasts_S16x49152_S1x16x49152

/-- The codes of a batch, as stored. -/
def codeVec (v : FVec F S16x64x49152 .f32) : FVec F S1x1024x49152 .fp8e4m3 :=
  shapeCast S1x1024x49152 (shapeCast S1024x49152 (truncf .fp8e4m3
    (minimumf (broadcast S16x64x49152 (Scalar.ofBits .f32 0x43E00000#32))
      (maximumf (broadcast S16x64x49152 (Scalar.ofBits .f32 0xC3E00000#32))
        (mulf v (broadcastTo S16x64x49152
          (shapeCast S16x1x49152 (exp2 (subf (broadcast S16x49152 (Scalar.ofBits .f32 0x00000000#32)) (expVec (amaxVec v)))) shapeCasts_S16x49152_S16x1x49152)
          broadcasts_S16x1x49152_S16x64x49152)))) bitsLt_fp8e4m3_f32) shapeCasts_S16x64x49152_S1024x49152) shapeCasts_S1024x49152_S1x1024x49152

/-! ## The generated results are the families (last batch first) -/

def codes (v : Fin 4 → FVec F S16x64x49152 .f32) : Vec F S4x1024x49152 .fp8e4m3 :=
  View.canon (List.ofFn fun k : Fin 4 =>
    ⟨Rect.unit (s := S4x1024x49152) (off3 k.rev) S1x1024x49152.size (inbC k.rev), codeVec (v k.rev)⟩)

def scales (v : Fin 4 → FVec F S16x64x49152 .f32) : Vec F S4x16x49152 .f32 :=
  View.canon (List.ofFn fun k : Fin 4 =>
    ⟨Rect.unit (s := S4x16x49152) (off3 k.rev) S1x16x49152.size (inbE k.rev), scaleVec (v k.rev)⟩)

variable (x0 : Vec F S4x49152x1152 .fp8e4m3) (x1 : Vec F S4x49152 .f32) (x2 : Vec F S1152x2048 .fp8e4m3)
  (x3 : Vec F S2048x1 .f32) (x4 : Vec F S16x64 .f32)

theorem out5_eq : out0_5 x0 x1 x2 x3 x4 = codes (keyHeads x0 x1 x2 x3) := rfl
theorem out6_eq : out0_6 x0 x1 x2 x3 x4 = scales (keyHeads x0 x1 x2 x3) := rfl
theorem out7_eq : out0_7 x0 x1 x2 x3 x4 = codes (valHeads x0 x1 x2 x3 x4) := rfl
theorem out8_eq : out0_8 x0 x1 x2 x3 x4 = scales (valHeads x0 x1 x2 x3 x4) := rfl

end

end Cert.RefUnits
-- ==== Proof.RefArrays.lean ====
/-
  THE REFERENCE'S FOUR RESULT ARRAYS. Each is the target's function of the arguments: batch by batch, the projection read at an
  index and the quantiser of RefBatch.lean over it.
-/
module

public import proofs.«01_k».proof.Proof.RefBatch
public import proofs.«01_k».proof.Proof.RefUnits
public import proofs.«01_k».proof.Proof.Gen.ReferenceIdeal.Value

@[expose] public section

set_option maxRecDepth 16384

noncomputable section

namespace Cert.RefArrays

open Cert.ReferenceIdeal Cert.ReferenceIdeal.Gen Cert.RefUnits Idealize.ShloMosaic Idealize.ShloMosaic.TcCoe Idealize.SL.Sem
open Idealize.ShloMosaic.Pipeline (Dat)

/-! ## One batch, at an index -/

/-- The 64 entries of head `h` of token `s`. -/
abbrev col (v : FVec Ideal S16x64x49152 .f32) (h : Fin 16) (s : Fin 49152) : Fin 64 → EReal := fun d => v (ix3 h d s)

theorem scaleVec_apply (v : FVec Ideal S16x64x49152 .f32) (a : Fin 1) (h : Fin 16) (s : Fin 49152) :
    scaleVec v (ix3 a h s) = Target.scale (col v h s) :=
  RefBatch.scale_apply reduces_S16x64x49152_S16x49152 shapeCasts_S16x49152_S1x16x49152 v a h s

theorem codeVec_apply (v : FVec Ideal S16x64x49152 .f32) (a : Fin 1) (j : Fin 1024) (s : Fin 49152) (h : Fin 16) (d : Fin 64)
    (hj : j.val = h.val * 64 + d.val) : codeVec v (ix3 a j s) = Target.code (col v h s) d :=
  RefBatch.code_apply (by decide) reduces_S16x64x49152_S16x49152 shapeCasts_S16x49152_S16x1x49152 broadcasts_S16x1x49152_S16x64x49152
    shapeCasts_S16x64x49152_S1024x49152 shapeCasts_S1024x49152_S1x1024x49152 bitsLt_fp8e4m3_f32 v a j s h d hj

theorem heads_apply (x0 : Vec Ideal S4x49152x1152 .fp8e4m3) (x1 : Vec Ideal S4x49152 .f32) (x2 : Vec Ideal S1152x2048 .fp8e4m3)
    (x3 : Vec Ideal S2048x1 .f32) (b : Fin 4) (r : Fin 32) (d : Fin 64) (s : Fin 49152) (j : Fin 2048) (hj : j.val = r.val * 64 + d.val) :
    heads x0 x1 x2 x3 b (ix3 r d s)
      = Target.proj (fun k => x0 (ix3 b s k)) (x1 (ix2 b s)) (fun k => x2 (ix2 k j)) (x3 (ix2 j 0)) := by
  unfold heads
  simp only [pointwise]
  rw [zero_add]
  unfold Target.proj
  have e1 (n : ℕ) : 0 + 1 * n = n := by omega
  have e2 (n : ℕ) : n + 1 * 0 = n := by omega
  have e3 : 0 + 1 * (r.val * 64 + d.val) = j.val := by omega
  refine congrArg₂ (· * ·) (congrArg₂ (· * ·) (Finset.sum_congr rfl fun k _ => congrArg₂ (· * ·) ?_ ?_) ?_) ?_
  · exact congrArg x2 (congrArg₂ ix2 (Fin.ext (e1 _)) (Fin.ext e3))
  · exact congrArg x0 (congr (congrArg₂ ix3 (Fin.ext (e2 _)) (Fin.ext (e1 _))) (Fin.ext (e1 _)))
  · exact congrArg x1 (congrArg₂ ix2 (Fin.ext (e2 _)) (Fin.ext (e1 _)))
  · exact congrArg x3 (congrArg₂ ix2 (Fin.ext e3) rfl)

section
variable (x0 : Vec Ideal S4x49152x1152 .fp8e4m3) (x1 : Vec Ideal S4x49152 .f32) (x2 : Vec Ideal S1152x2048 .fp8e4m3)
  (x3 : Vec Ideal S2048x1 .f32) (x4 : Vec Ideal S16x64 .f32)

theorem keyHeads_col (b : Fin 4) (h : Fin 16) (s : Fin 49152) : col (keyHeads x0 x1 x2 x3 b) h s = Target.key x0 x1 x2 x3 b h s := by
  funext d
  have e : keyHeads x0 x1 x2 x3 b (ix3 h d s) = heads x0 x1 x2 x3 b (ix3 ⟨h.val, by omega⟩ d s) :=
    RefBatch.slice_apply 0 slices_S32x64x49152_o0_0_0_S16x64x49152 _ h d s _ (by show h.val = 0 + h.val; omega)
  exact e.trans (heads_apply x0 x1 x2 x3 b _ d s _ rfl)

theorem valHeads_col (b : Fin 4) (h : Fin 16) (s : Fin 49152) : col (valHeads x0 x1 x2 x3 x4 b) h s = Target.val x0 x1 x2 x3 x4 b h s := by
  funext d
  have e1 : extractStridedSlice S16x64x49152 ![16, 0, 0] (heads x0 x1 x2 x3 b) slices_S32x64x49152_o16_0_0_S16x64x49152 (ix3 h d s)
      = heads x0 x1 x2 x3 b (ix3 ⟨16 + h.val, by omega⟩ d s) :=
    RefBatch.slice_apply 16 slices_S32x64x49152_o16_0_0_S16x64x49152 _ h d s _ rfl
  have e2 := heads_apply x0 x1 x2 x3 b ⟨16 + h.val, by omega⟩ d s ⟨1024 + (h.val * 64 + d.val), by omega⟩
    (by show 1024 + (h.val * 64 + d.val) = (16 + h.val) * 64 + d.val; omega)
  have e3 : broadcastTo S16x64x49152 (shapeCast S16x64x1 (View.ld x4 r0_4) shapeCasts_S16x64_S16x64x1) broadcasts_S16x64x1_S16x64x49152 (ix3 h d s)
      = x4 (ix2 h d) :=
    (RefBatch.spreadTokens_apply shapeCasts_S16x64_S16x64x1 broadcasts_S16x64x1_S16x64x49152 _ h d s).trans
      (View.ld_unit_apply_of _ _ _ _ _ _ fun a => match a with
        | ⟨0, _⟩ => (Nat.zero_add _).symm
        | ⟨1, _⟩ => (Nat.zero_add _).symm)
  exact congrArg₂ (· + ·) (e1.trans e2) e3

end

/-! ## A result at an index: the batch holding it -/

theorem codes_apply (v : Fin 4 → FVec Ideal S16x64x49152 .f32) (R : Fin 4 → Fin 16 → Fin 49152 → Fin 64 → EReal)
    (hv : ∀ b h s, col (v b) h s = R b h s) : codes v = Target.codesOf R := by
  funext y
  unfold codes
  refine View.canon_ofFn_unit_eq_of_forall (Val := Elt Ideal) (S := S4x1024x49152) (e := .fp8e4m3) (fun k : Fin 4 => off3 k.rev)
    S1x1024x49152.size (fun k => inbC k.rev) (fun k => codeVec (v k.rev)) y _ ?_ ?_
  · have h1 : (y 1).val < 1024 := (y 1).isLt
    have h2 : (y 2).val < 49152 := (y 2).isLt
    obtain ⟨b, hb⟩ : ∃ b : Fin 4, b.val = (y 0).val := ⟨y 0, rfl⟩
    refine ⟨b.rev, ?_⟩
    rw [Fin.rev_rev]
    intro a
    match a with
    | ⟨0, _⟩ => show b.val ≤ (y 0).val ∧ (y 0).val < b.val + 1
                omega
    | ⟨1, _⟩ => show 0 ≤ (y 1).val ∧ (y 1).val < 0 + 1024
                omega
    | ⟨2, _⟩ => show 0 ≤ (y 2).val ∧ (y 2).val < 0 + 49152
                omega
  · intro k
    generalize k.rev = b
    intro x hx
    have h0 : (y 0).val = b.val + (x 0).val := hx 0
    have h1 : (y 1).val = 0 + (x 1).val := hx 1
    have h2 : (y 2).val = 0 + (x 2).val := hx 2
    have l0 : (x 0).val < 1 := (x 0).isLt
    have l1 : (x 1).val < 1024 := (x 1).isLt
    obtain ⟨a, j, s, rfl⟩ : ∃ a j s, x = ix3 a j s := ⟨x 0, x 1, x 2, eq_ix3 x⟩
    have a0 : b = y 0 := Fin.ext (by omega)
    have a2 : s = y 2 := Fin.ext (h2.trans (Nat.zero_add _)).symm
    have a1 : j.val = (y 1).val := (h1.trans (Nat.zero_add _)).symm
    have lj : j.val < 1024 := j.isLt
    refine (codeVec_apply (v b) a j s ⟨j.val / 64, by omega⟩ ⟨j.val % 64, by omega⟩ (by show j.val = j.val / 64 * 64 + j.val % 64; omega)).trans ?_
    rw [hv, a0, a2]
    unfold Target.codesOf
    congr 1
    · exact congrArg (fun h => R (y 0) h (y 2)) (Fin.ext (by show j.val / 64 = (y 1).val / 64; rw [a1]))
    · exact Fin.ext (by show j.val % 64 = (y 1).val % 64; rw [a1])

theorem scales_apply (v : Fin 4 → FVec Ideal S16x64x49152 .f32) (R : Fin 4 → Fin 16 → Fin 49152 → Fin 64 → EReal)
    (hv : ∀ b h s, col (v b) h s = R b h s) : scales v = Target.scalesOf R := by
  funext y
  unfold scales
  refine View.canon_ofFn_unit_eq_of_forall (Val := Elt Ideal) (S := S4x16x49152) (e := .f32) (fun k : Fin 4 => off3 k.rev)
    S1x16x49152.size (fun k => inbE k.rev) (fun k => scaleVec (v k.rev)) y _ ?_ ?_
  · have h1 : (y 1).val < 16 := (y 1).isLt
    have h2 : (y 2).val < 49152 := (y 2).isLt
    obtain ⟨b, hb⟩ : ∃ b : Fin 4, b.val = (y 0).val := ⟨y 0, rfl⟩
    refine ⟨b.rev, ?_⟩
    rw [Fin.rev_rev]
    intro a
    match a with
    | ⟨0, _⟩ => show b.val ≤ (y 0).val ∧ (y 0).val < b.val + 1
                omega
    | ⟨1, _⟩ => show 0 ≤ (y 1).val ∧ (y 1).val < 0 + 16
                omega
    | ⟨2, _⟩ => show 0 ≤ (y 2).val ∧ (y 2).val < 0 + 49152
                omega
  · intro k
    generalize k.rev = b
    intro x hx
    have h0 : (y 0).val = b.val + (x 0).val := hx 0
    have h1 : (y 1).val = 0 + (x 1).val := hx 1
    have h2 : (y 2).val = 0 + (x 2).val := hx 2
    have l0 : (x 0).val < 1 := (x 0).isLt
    obtain ⟨a, h, s, rfl⟩ : ∃ a h s, x = ix3 a h s := ⟨x 0, x 1, x 2, eq_ix3 x⟩
    have a0 : b = y 0 := Fin.ext (by omega)
    have a1 : h = y 1 := Fin.ext (h1.trans (Nat.zero_add _)).symm
    have a2 : s = y 2 := Fin.ext (h2.trans (Nat.zero_add _)).symm
    refine (scaleVec_apply (v b) a h s).trans ?_
    rw [hv, a0, a1, a2]
    rfl

/-! ## The arguments as the target takes them, and as the kernel finds them -/

variable (m : (ℓ : Loc nD τ sig) → Buf (Elt Ideal) ℓ) (ρ : Dev nD → PrngReg)

abbrev X (c : Dev nD) : S4x49152x1152.Idx → EReal := m ((c : Thread nD τ).loc main_arg0)
abbrev XS (c : Dev nD) : S4x49152.Idx → EReal := m ((c : Thread nD τ).loc main_arg1)
abbrev W (c : Dev nD) : S1152x2048.Idx → EReal :=
  shapeCast (s := S1152x2x16x64) S1152x2048 (m ((c : Thread nD τ).loc main_arg2)) shapeCasts_S1152x2x16x64_S1152x2048
abbrev WS (c : Dev nD) : S2048x1.Idx → EReal :=
  shapeCast (s := S2x16x64) S2048x1 (m ((c : Thread nD τ).loc main_arg3)) shapeCasts_S2x16x64_S2048x1
abbrev B (c : Dev nD) : S16x64.Idx → EReal := m ((c : Thread nD τ).loc main_arg4)

theorem V_v0 (c : Dev nD) : V m c main_v0 = W m c := by
  show StableHlo.after hostOps0 (fun b => m (c, b)) (Proc.devRef .tc main_v0) = _
  after_results
  rfl

theorem V_v1 (c : Dev nD) : V m c main_v1 = WS m c := by
  show StableHlo.after hostOps0 (fun b => m (c, b)) (Proc.devRef .tc main_v1) = _
  after_results
  rfl

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)

theorem blk0 (c : Dev nD) (t : Fin cfg0.N) : iblk m c 0 t = X m c := by
  funext y
  blk_simp [iblk]
  rw [V_main_arg0]
  refine congrArg (X m c) ?_
  blk_ext [idx0]

theorem blk1 (c : Dev nD) (t : Fin cfg0.N) : iblk m c 1 t = XS m c := by
  funext y
  blk_simp [iblk]
  rw [V_main_arg1]
  refine congrArg (XS m c) ?_
  blk_ext [idx1]

theorem blk2 (c : Dev nD) (t : Fin cfg0.N) : iblk m c 2 t = W m c := by
  funext y
  blk_simp [iblk]
  rw [V_v0]
  refine congrArg (W m c) ?_
  blk_ext [idx2]

theorem blk3 (c : Dev nD) (t : Fin cfg0.N) : iblk m c 3 t = WS m c := by
  funext y
  blk_simp [iblk]
  rw [V_v1]
  refine congrArg (WS m c) ?_
  blk_ext [idx3]

theorem blk4 (c : Dev nD) (t : Fin cfg0.N) : iblk m c 4 t = B m c := by
  funext y
  blk_simp [iblk]
  rw [V_main_arg4]
  refine congrArg (B m c) ?_
  blk_ext [idx4]

/-! ## The result arrays: the one grid point writes each whole -/

abbrev keys (c : Dev nD) : Fin 4 → Fin 16 → Fin 49152 → Fin 64 → EReal := Target.key (X m c) (XS m c) (W m c) (WS m c)
abbrev vals (c : Dev nD) : Fin 4 → Fin 16 → Fin 49152 → Fin 64 → EReal := Target.val (X m c) (XS m c) (W m c) (WS m c) (B m c)

/-- The key codes. -/
theorem final5 (c : Dev nD) : (dats m 0 c).arrAt 5 cfg0.N = Target.codesOf (keys m c) := by
  refine (dats m 0 c).arrAt_eq_of_covers 5 _ (by decide +kernel) fun t _ y => ?_
  blk_simp
  rw [after0_5, out5_eq]
  have e : ((win0_5.blk t).view.emb y : S4x1024x49152.Idx) = y := by blk_ext [idx5]
  rw [e]
  have h := codes_apply (keyHeads (X m c) (XS m c) (W m c) (WS m c)) _ (keyHeads_col (X m c) (XS m c) (W m c) (WS m c))
  rw [blk0, blk1, blk2, blk3]
  exact congrFun h y

/-- The key scales. -/
theorem final6 (c : Dev nD) : (dats m 0 c).arrAt 6 cfg0.N = Target.scalesOf (keys m c) := by
  refine (dats m 0 c).arrAt_eq_of_covers 6 _ (by decide +kernel) fun t _ y => ?_
  blk_simp
  rw [after0_6, out6_eq]
  have e : ((win0_6.blk t).view.emb y : S4x16x49152.Idx) = y := by blk_ext [idx6]
  rw [e]
  have h := scales_apply (keyHeads (X m c) (XS m c) (W m c) (WS m c)) _ (keyHeads_col (X m c) (XS m c) (W m c) (WS m c))
  rw [blk0, blk1, blk2, blk3]
  exact congrFun h y

/-- The value codes. -/
theorem final7 (c : Dev nD) : (dats m 0 c).arrAt 7 cfg0.N = Target.codesOf (vals m c) := by
  refine (dats m 0 c).arrAt_eq_of_covers 7 _ (by decide +kernel) fun t _ y => ?_
  blk_simp
  rw [after0_7, out7_eq]
  have e : ((win0_7.blk t).view.emb y : S4x1024x49152.Idx) = y := by blk_ext [idx7]
  rw [e]
  have h := codes_apply (valHeads (X m c) (XS m c) (W m c) (WS m c) (B m c)) _ (valHeads_col (X m c) (XS m c) (W m c) (WS m c) (B m c))
  rw [blk0, blk1, blk2, blk3, blk4]
  exact congrFun h y

/-- The value scales. -/
theorem final8 (c : Dev nD) : (dats m 0 c).arrAt 8 cfg0.N = Target.scalesOf (vals m c) := by
  refine (dats m 0 c).arrAt_eq_of_covers 8 _ (by decide +kernel) fun t _ y => ?_
  blk_simp
  rw [after0_8, out8_eq]
  have e : ((win0_8.blk t).view.emb y : S4x16x49152.Idx) = y := by blk_ext [idx8]
  rw [e]
  have h := scales_apply (valHeads (X m c) (XS m c) (W m c) (WS m c) (B m c)) _ (valHeads_col (X m c) (XS m c) (W m c) (WS m c) (B m c))
  rw [blk0, blk1, blk2, blk3, blk4]
  exact congrFun h y

/-- THE RUN: the four results at the target's functions of the arguments, the arguments unchanged. -/
theorem run : θ_run defs (onTc (τ := τ) (main (F := Ideal))) ⟨m, fun _ => 0, ρ⟩ fun r => ∀ c : Dev nD,
      r.2.mem ((c : Thread nD τ).loc main_v2_0) = Target.codesOf (keys m c)
      ∧ r.2.mem ((c : Thread nD τ).loc main_v2_1) = Target.scalesOf (keys m c)
      ∧ r.2.mem ((c : Thread nD τ).loc main_v2_2) = Target.codesOf (vals m c)
      ∧ r.2.mem ((c : Thread nD τ).loc main_v2_3) = Target.scalesOf (vals m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    have := h c
    rw [final5, final6, final7, final8] at this
    exact this) (Cert.ReferenceIdeal.Value.run_blocks m ρ)

end Cert.RefArrays
-- ==== Proof.Agreement.lean ====
/-
  THE VALUE CLAIM. Both programs' runs end with their four results at the same functions of the arguments (KernelArrays.lean,
  RefArrays.lean), so from agreeing arguments the results are equal.
-/
module

public import proofs.«01_k».proof.Defs
public import proofs.«01_k».proof.Proof.KernelArrays
public import proofs.«01_k».proof.Proof.RefArrays

@[expose] public section

set_option maxRecDepth 16384

noncomputable section

namespace Cert.Agreement

open Idealize.ShloMosaic Idealize.SL.Sem

/-- From agreeing arguments the reference's heads are the kernel's. -/
theorem heads_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : RefArrays.X m' c = KernelArrays.X m c) (h1 : RefArrays.XS m' c = KernelArrays.XS m c)
    (h2 : RefArrays.W m' c = KernelArrays.W m c) (h3 : RefArrays.WS m' c = KernelArrays.WS m c)
    (h4 : RefArrays.B m' c = KernelArrays.B m c) :
    RefArrays.keys m' c = KernelArrays.keys m c ∧ RefArrays.vals m' c = KernelArrays.vals m c := by
  unfold RefArrays.keys RefArrays.vals
  rw [h0, h1, h2, h3, h4]
  exact ⟨rfl, rfl⟩

theorem algebraic : algebraic_KernelIdeal_ReferenceIdeal
    (hKernelIdeal := KernelIdeal.Gen.facts) (hReferenceIdeal := ReferenceIdeal.Gen.facts) := by
  intro m ρ m' ρ' _ hagree
  have e := fun c : Dev KernelIdeal.nD => heads_eq m m' c (hagree c).1 (hagree c).2.1
    (congrArg (fun v => shapeCast (s := KernelIdeal.S1152x2x16x64) KernelIdeal.S1152x2048 v _) (hagree c).2.2.1)
    (congrArg (fun v => shapeCast (s := KernelIdeal.S2x16x64) KernelIdeal.S2048x1 v _) (hagree c).2.2.2.1)
    (hagree c).2.2.2.2
  refine ⟨fun c => Target.codesOf (KernelArrays.keys m c), fun c => Target.scalesOf (KernelArrays.keys m c),
    fun c => Target.codesOf (KernelArrays.vals m c), fun c => Target.scalesOf (KernelArrays.vals m c), KernelArrays.run m ρ, ?_⟩
  refine (θ_run _ _ _).mono (fun r h c => ?_) (RefArrays.run m' ρ')
  have h := h c
  rw [(e c).1, (e c).2] at h
  exact h

end Cert.Agreement
-- ==== Proof.Rows.lean ====
/-
  THE QUANTISER OF ROWS, over any number `n` of rows and `d` of entries. Each row of a matrix gets one power-of-two scale. The
  kernel finds its exponent by the search of Pow2.lean, the reference by logarithms; both give the same column of scales and the
  same column of reciprocals.
-/
module

public import proofs.«01_k».proof.Proof.Target
public import Idealize.ShloMosaic.Lib.Pipeline.ValueKit

@[expose] public section

set_option maxRecDepth 16384

noncomputable section

namespace Cert.Rows

open Idealize.ShloMosaic Idealize.ShloMosaic.TcCoe

variable {n d : ℕ}

/-- The shapes: a matrix, and one number per row. -/
abbrev M (n d : ℕ) : Shape := ⟨2, ![n, d]⟩
abbrev L (n : ℕ) : Shape := ⟨1, ![n]⟩

/-- One number per row, stood up as a column. -/
theorem column_apply {α : Type} (hc : (L n).ShapeCasts (M n 1)) (v : (L n).Idx → α) (i : Fin n) (z : Fin 1) :
    shapeCast (s := L n) (M n 1) v hc (ix2 i z) = v (ix1 i) := by
  refine shapeCast_apply v hc (ix2 i z) (ix1 i) ?_
  rw [Shape.rowMajor_val_two, Shape.rowMajor_val_one]
  show i.val = i.val * 1 + z.val
  omega

/-- A column spread over `d` entries. -/
theorem spread_apply {α : Type} (hb : (M n 1).Broadcasts (M n d)) (v : (M n 1).Idx → α) (i : Fin n) (k : Fin d) :
    broadcastTo (M n d) v hb (ix2 i k) = v (ix2 i 0) := by
  refine broadcastTo_apply v hb (ix2 i k) (ix2 i 0) fun a => ?_
  match a with
  | ⟨0, _⟩ =>
    show i.val = if n = 1 then 0 else i.val
    split <;> omega
  | ⟨1, _⟩ => rfl

/-- A 448th of the largest magnitude of each row. -/
def amaxVec (hr : (M n d).Reduces [1] (L n)) (hc : (L n).ShapeCasts (M n 1)) (v : FVec Ideal (M n d) .f32) : FVec Ideal (M n 1) .f32 :=
  mulf (shapeCast (M n 1) (multiReduction .maximumf [1] (L n) (absf v) 0xFF800000#32 hr (.inl rfl) rfl) hc)
    (broadcast (M n 1) (Scalar.ofBits .f32 0x3B124925#32))

/-- It is nonnegative (of a row that has an entry). -/
theorem amaxVec_nonneg (hd : 0 < d) (hr : (M n d).Reduces [1] (L n)) (hc : (L n).ShapeCasts (M n 1)) (v : FVec Ideal (M n d) .f32)
    (j : (M n 1).Idx) : 0 ≤ amaxVec hr hc v j := by
  obtain ⟨i, z, rfl⟩ : ∃ i z, j = ix2 i z := ⟨j 0, j 1, eq_ix2 j⟩
  show 0 ≤ shapeCast (s := L n) (M n 1) _ hc (ix2 i z) * Ideal.ofBits .f32 0x3B124925#32
  rw [column_apply]
  simp only [pointwise]
  exact Target.amax_fold_nonneg hd _

/-- The exponent field of a column, as the kernel finds it. -/
def fieldVec (hi : (M n 248).Iotas .tc 32 [1]) (hb : (M n 1).Broadcasts (M n 248)) (hr : (M n 248).Reduces [1] (L n))
    (hc : (L n).ShapeCasts (M n 1)) (a : FVec Ideal (M n 1) .f32) : IVec (M n 1) 32 :=
  shapeCast (M n 1) (multiReductionI .maxsi [1] (L n)
    (select (cmpf .ole (bitcastToFloat .f32 (shli (iota .tc (M n 248) 32 [1] hi) (broadcast (M n 248) 23#32))) (broadcastTo (M n 248) a hb))
      (iota .tc (M n 248) 32 [1] hi) (broadcast (M n 248) 0#32))
    2147483648#32 hr rfl) hc

theorem fieldVec_apply (hi : (M n 248).Iotas .tc 32 [1]) (hb : (M n 1).Broadcasts (M n 248)) (hr : (M n 248).Reduces [1] (L n))
    (hc : (L n).ShapeCasts (M n 1)) (a : FVec Ideal (M n 1) .f32) (i : Fin n) (z : Fin 1) :
    fieldVec hi hb hr hc a (ix2 i z) = Pow2.field (a (ix2 i z)) := by
  unfold fieldVec Pow2.field
  rw [column_apply]
  have hs : ∀ k, broadcastTo (M n 248) a hb (ix2 i k) = a (ix2 i 0) := fun k => spread_apply hb a i k
  generalize broadcastTo (M n 248) a hb = b at hs ⊢
  simp only [pointwise]
  refine congrArg (fun f => Finset.fold IntOp.maxsi 2147483648#32 f Finset.univ) (funext fun k => ?_)
  have hz : z = 0 := Fin.ext (by omega)
  have hk : List.foldl (fun m b => m * ![n, 248] b + ((ix2 i k b : Fin _) : ℕ)) 0 [1] = k.val := by
    show 0 * 248 + k.val = k.val
    omega
  rw [hk, hz, hs]
  unfold Pow2.entry
  simp only [pointwise]

/-- The exponent field of the scale. -/
def scaleFieldVec (f : IVec (M n 1) 32) : IVec (M n 1) 32 :=
  select (cmpi .eq f (broadcast (M n 1) 0#32)) (broadcast (M n 1) 127#32) (addi f (broadcast (M n 1) 1#32))

/-- The kernel's scales and reciprocals, from the exponent fields. -/
def kScaleVec (f : IVec (M n 1) 32) : FVec Ideal (M n 1) .f32 := bitcastToFloat .f32 (shli (scaleFieldVec f) (broadcast (M n 1) 23#32))
def kInvVec (f : IVec (M n 1) 32) : FVec Ideal (M n 1) .f32 :=
  bitcastToFloat .f32 (shli (subi (broadcast (M n 1) 254#32) (scaleFieldVec f)) (broadcast (M n 1) 23#32))

/-- The reference's exponents. -/
def expVec (a : FVec Ideal (M n 1) .f32) : FVec Ideal (M n 1) .f32 :=
  select (cmpf .olt a (broadcast (M n 1) (Scalar.ofBits .f32 0x00800000#32)))
    (broadcast (M n 1) (Scalar.ofBits .f32 0x00000000#32))
    (minimumf (addf (floor (divf (log a) (log (broadcast (M n 1) (Scalar.ofBits .f32 0x40000000#32)))))
        (broadcast (M n 1) (Scalar.ofBits .f32 0x3F800000#32)))
      (broadcast (M n 1) (Scalar.ofBits .f32 0x42F20000#32)))

theorem expVec_apply (a : FVec Ideal (M n 1) .f32) (j : (M n 1).Idx) : expVec a j = Pow2.rExp (a j) := by
  unfold expVec Pow2.rExp
  simp only [pointwise]

/-- The reference's scales and reciprocals. -/
def rScaleVec (a : FVec Ideal (M n 1) .f32) : FVec Ideal (M n 1) .f32 := exp2 (expVec a)
def rInvVec (a : FVec Ideal (M n 1) .f32) : FVec Ideal (M n 1) .f32 :=
  exp2 (subf (broadcast (M n 1) (Scalar.ofBits .f32 0x00000000#32)) (expVec a))

/-- Where the fields are those of a nonnegative column, the scales agree. -/
theorem scale_eq (f : IVec (M n 1) 32) (a : FVec Ideal (M n 1) .f32) (ha : ∀ j, 0 ≤ a j) (hf : ∀ j, f j = Pow2.field (a j)) :
    kScaleVec f = rScaleVec a := by
  funext j
  refine Eq.trans ?_ ((Pow2.agree _ (ha j)).1.trans ?_)
  · unfold kScaleVec scaleFieldVec Pow2.kScale Pow2.scaleField
    simp only [pointwise]
    rw [hf]
  · show _ = Ideal.exp2 (expVec a j)
    rw [expVec_apply]
    rfl

/-- And the reciprocals. -/
theorem inv_eq (f : IVec (M n 1) 32) (a : FVec Ideal (M n 1) .f32) (ha : ∀ j, 0 ≤ a j) (hf : ∀ j, f j = Pow2.field (a j)) :
    kInvVec f = rInvVec a := by
  funext j
  refine Eq.trans ?_ ((Pow2.agree _ (ha j)).2.trans ?_)
  · unfold kInvVec scaleFieldVec Pow2.kInv Pow2.scaleField
    simp only [pointwise]
    rw [hf]
  · show _ = Ideal.exp2 (_ - expVec a j)
    rw [expVec_apply]
    rfl

/-- The codes of a matrix, from the reciprocals of its rows: every entry over its scale, clipped. -/
def codesVec (hs : (M n 1).Broadcasts (M n d)) (v : FVec Ideal (M n d) .f32) (inv : FVec Ideal (M n 1) .f32) : FVec Ideal (M n d) .fp8e4m3 :=
  truncf .fp8e4m3 (minimumf (broadcast (M n d) (Scalar.ofBits .f32 0x43E00000#32))
    (maximumf (broadcast (M n d) (Scalar.ofBits .f32 0xC3E00000#32)) (mulf v (broadcastTo (M n d) inv hs)))) (by decide)

section
variable (hi : (M n 248).Iotas .tc 32 [1]) (hb : (M n 1).Broadcasts (M n 248)) (hr : (M n 248).Reduces [1] (L n))
  (hc : (L n).ShapeCasts (M n 1)) (hq : (M n d).Reduces [1] (L n)) (v : FVec Ideal (M n d) .f32)

/-- The scales of the rows of a matrix. -/
theorem rowScale_eq (hd : 0 < d) : kScaleVec (fieldVec hi hb hr hc (amaxVec hq hc v)) = rScaleVec (amaxVec hq hc v) :=
  scale_eq _ _ (amaxVec_nonneg hd hq hc v) fun j => by rw [eq_ix2 j]; exact fieldVec_apply hi hb hr hc _ _ _

/-- The reciprocals. -/
theorem rowInv_eq (hd : 0 < d) : kInvVec (fieldVec hi hb hr hc (amaxVec hq hc v)) = rInvVec (amaxVec hq hc v) :=
  inv_eq _ _ (amaxVec_nonneg hd hq hc v) fun j => by rw [eq_ix2 j]; exact fieldVec_apply hi hb hr hc _ _ _

end

end Cert.Rows
-- ==== Proof.LatentRun.lean ====
/-
  THE TWO LATENT RUNS, WITH THEIR RESULTS NAMED: after each program's run, result `w` is what the grid's one point left of output
  window `w`, and the arguments are unchanged.
-/
module

public import proofs.«01_k».proof.Proof.Gen.LatentKernelIdeal.Frame
public import proofs.«01_k».proof.Proof.Gen.LatentReferenceIdeal.Frame
public import Idealize.ShloMosaic.Lib.Pipeline.Value

@[expose] public section

noncomputable section

namespace Cert.LatentKernelIdeal.Run

open Cert.LatentKernelIdeal Cert.LatentKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v6_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v6_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v6_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 6 cfg0.N
      ∧ r.2.mem ((c : Thread nD τ).loc main_v6_1) = (dats m 0 c).arrAt 7 cfg0.N
      ∧ r.2.mem ((c : Thread nD τ).loc main_v6_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

end Cert.LatentKernelIdeal.Run

namespace Cert.LatentReferenceIdeal.Run

open Cert.LatentReferenceIdeal Cert.LatentReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

end Cert.LatentReferenceIdeal.Run
-- ==== Proof.Latent.lean ====
/-
  THE LATENT QUERIES. The kernel and the reference normalise the latent rows in the same way; the quantisers agree by Rows.lean, and
  the kernel's product with the weight transposed is the reference's product with the weight.
-/
module

public import proofs.«01_k».proof.Defs
public import proofs.«01_k».proof.Proof.Rows
public import proofs.«01_k».proof.Proof.LatentRun

@[expose] public section

set_option maxRecDepth 16384

noncomputable section

namespace Cert.Latent

open Idealize.ShloMosaic Idealize.ShloMosaic.TcCoe Idealize.SL.Sem
open Idealize.ShloMosaic.Pipeline (Dat)
open Cert.LatentKernelIdeal (S288x1024 S1x1024 S1024x1024 S288x1 S288 S288x248)

/-! ## The operations, on whole arrays -/

section
variable (x0 : Vec Ideal S288x1024 .f32) (x1 x2 : Vec Ideal S1x1024 .f32) (w : FVec Ideal S1024x1024 .fp8e4m3)
  (x4 x5 : Vec Ideal S1x1024 .f32)

/-- The normalised rows. -/
abbrev ln : FVec Ideal S288x1024 .f32 := LatentReferenceIdeal.Gen.k0_pay5 (F := Ideal) x0 x1 x2

/-- A 448th of each row's largest magnitude. -/
abbrev am : FVec Ideal S288x1 .f32 :=
  Rows.amaxVec LatentReferenceIdeal.Facts₀.reduces_S288x1024_S288 LatentReferenceIdeal.Facts₀.shapeCasts_S288_S288x1 (ln x0 x1 x2)

/-- The codes, the scales, and the queries with the product `p` of the codes and the weight. -/
def codes : FVec Ideal S288x1024 .fp8e4m3 :=
  Rows.codesVec LatentReferenceIdeal.Facts₀.broadcasts_S288x1_S288x1024 (ln x0 x1 x2) (Rows.rInvVec (am x0 x1 x2))
def scales : FVec Ideal S288x1 .f32 := Rows.rScaleVec (am x0 x1 x2)
def finish (p : FVec Ideal S288x1024 .f32) : FVec Ideal S288x1024 .bf16 :=
  mulf (truncf .bf16 (addf (mulf (mulf p (broadcastTo S288x1024 (scales x0 x1 x2) LatentReferenceIdeal.Facts₀.broadcasts_S288x1_S288x1024))
      (broadcastTo S288x1024 x4 LatentReferenceIdeal.Facts₀.broadcasts_S1x1024_S288x1024))
    (broadcastTo S288x1024 x5 LatentReferenceIdeal.Facts₀.broadcasts_S1x1024_S288x1024)) (by decide))
    (broadcast S288x1024 (Scalar.ofBits .bf16 0x3E00#16))
def queries : FVec Ideal S288x1024 .bf16 :=
  finish x0 x1 x2 x4 x5
    (matmul (φ₂ := .fp8e4m3) LatentReferenceIdeal.dot_S288x1024_S1024x1024_S288x1024_1_0_0_1_n_n none (codes x0 x1 x2) w (constant S288x1024 .f32 0x00000000#32))

/-- The product with the transposed weight, contracting its second axis, is the product with the weight. -/
theorem product_eq (c : FVec Ideal S288x1024 .fp8e4m3) :
    matmul (φ₂ := .fp8e4m3) LatentKernelIdeal.dot_S288x1024_S1024x1024_S288x1024_1_1_0_0_n_n none c
        (transpose S1024x1024 [1, 0] w LatentKernelIdeal.Facts₀.transposes_S1024x1024_S1024x1024_1_0) (constant S288x1024 .f32 0x00000000#32)
      = matmul (φ₂ := .fp8e4m3) LatentReferenceIdeal.dot_S288x1024_S1024x1024_S288x1024_1_0_0_1_n_n none c w (constant S288x1024 .f32 0x00000000#32) := by
  funext j
  obtain ⟨i, k, rfl⟩ : ∃ i k, j = ix2 i k := ⟨j 0, j 1, eq_ix2 j⟩
  simp only [pointwise]

theorem kScale_eq : Rows.kScaleVec (Rows.fieldVec LatentKernelIdeal.Facts₀.iota_S288x248_d1_w32 LatentKernelIdeal.Facts₀.broadcasts_S288x1_S288x248
      LatentKernelIdeal.Facts₀.reduces_S288x248_S288 LatentKernelIdeal.Facts₀.shapeCasts_S288_S288x1 (am x0 x1 x2)) = scales x0 x1 x2 :=
  Rows.rowScale_eq _ _ _ _ _ _ (by norm_num)

theorem kInv_eq : Rows.kInvVec (Rows.fieldVec LatentKernelIdeal.Facts₀.iota_S288x248_d1_w32 LatentKernelIdeal.Facts₀.broadcasts_S288x1_S288x248
      LatentKernelIdeal.Facts₀.reduces_S288x248_S288 LatentKernelIdeal.Facts₀.shapeCasts_S288_S288x1 (am x0 x1 x2)) = Rows.rInvVec (am x0 x1 x2) :=
  Rows.rowInv_eq _ _ _ _ _ _ (by norm_num)

/-! ## The generated results: loads and stores of whole arrays -/

theorem rLd0 {e : EltTy} (x : Vec Ideal S288x1024 e) : View.ld (Val := Elt Ideal) x LatentReferenceIdeal.Gen.r0_0 = x :=
  View.ld_unit_lit _ x (by decide)
theorem rLd1 {e : EltTy} (x : Vec Ideal S1x1024 e) : View.ld (Val := Elt Ideal) x LatentReferenceIdeal.Gen.r0_1 = x :=
  View.ld_unit_lit _ x (by decide)
theorem rLd3 {e : EltTy} (x : Vec Ideal S1024x1024 e) : View.ld (Val := Elt Ideal) x LatentReferenceIdeal.Gen.r0_3 = x :=
  View.ld_unit_lit _ x (by decide)
theorem kLd0 {e : EltTy} (x : Vec Ideal S288x1024 e) : View.ld (Val := Elt Ideal) x LatentKernelIdeal.Gen.r0_0 = x :=
  View.ld_unit_lit _ x (by decide)
theorem kLd1 {e : EltTy} (x : Vec Ideal S1x1024 e) : View.ld (Val := Elt Ideal) x LatentKernelIdeal.Gen.r0_1 = x :=
  View.ld_unit_lit _ x (by decide)
theorem kLd3 {e : EltTy} (x : Vec Ideal S1024x1024 e) : View.ld (Val := Elt Ideal) x LatentKernelIdeal.Gen.r0_3 = x :=
  View.ld_unit_lit _ x (by decide)

theorem cast_self {s : Shape} {α : Type} (v : s.Idx → α) (h : s.ShapeCasts s) : shapeCast s v h = v :=
  funext fun i => shapeCast_apply v h i i rfl

theorem r6 : LatentReferenceIdeal.Gen.out0_6 x0 x1 x2 w x4 x5 = codes x0 x1 x2 := by
  unfold LatentReferenceIdeal.Gen.out0_6 LatentReferenceIdeal.Gen.k0_pay11 LatentReferenceIdeal.Gen.k0_pay10 LatentReferenceIdeal.Gen.k0_pay9
  refine (View.canon_cons_unit_lit _ _ _ (by decide)).trans ?_
  rw [rLd0, rLd1, rLd1]
  rfl

theorem r7 : LatentReferenceIdeal.Gen.out0_7 x0 x1 x2 w x4 x5 = scales x0 x1 x2 := by
  unfold LatentReferenceIdeal.Gen.out0_7 LatentReferenceIdeal.Gen.k0_pay11 LatentReferenceIdeal.Gen.k0_pay10
  refine (View.canon_cons_unit_lit _ _ _ (by decide)).trans ?_
  rw [rLd0, rLd1, rLd1]
  rfl

theorem r8 : LatentReferenceIdeal.Gen.out0_8 x0 x1 x2 w x4 x5 = queries x0 x1 x2 w x4 x5 := by
  unfold LatentReferenceIdeal.Gen.out0_8 LatentReferenceIdeal.Gen.k0_pay11 LatentReferenceIdeal.Gen.k0_pay10 LatentReferenceIdeal.Gen.k0_pay9
  refine (View.canon_cons_unit_lit _ _ _ (by decide)).trans ?_
  rw [rLd0, rLd1, rLd1, rLd1, rLd1, rLd3]
  unfold LatentReferenceIdeal.Gen.k0_pay4
  simp only [cast_self]
  rfl

/-- The exponent fields of the rows, as the kernel finds them. -/
abbrev fields : IVec S288x1 32 :=
  Rows.fieldVec LatentKernelIdeal.Facts₀.iota_S288x248_d1_w32 LatentKernelIdeal.Facts₀.broadcasts_S288x1_S288x248
    LatentKernelIdeal.Facts₀.reduces_S288x248_S288 LatentKernelIdeal.Facts₀.shapeCasts_S288_S288x1 (am x0 x1 x2)

theorem kCodes_eq : LatentKernelIdeal.Gen.k0_pay6 (F := Ideal) (ln x0 x1 x2) (fields x0 x1 x2) LatentKernelIdeal.Gen.k0_pay3 = codes x0 x1 x2 :=
  Eq.trans (b := Rows.codesVec LatentReferenceIdeal.Facts₀.broadcasts_S288x1_S288x1024 (ln x0 x1 x2) (Rows.kInvVec (fields x0 x1 x2))) rfl
    (congrArg (Rows.codesVec LatentReferenceIdeal.Facts₀.broadcasts_S288x1_S288x1024 (ln x0 x1 x2)) (kInv_eq x0 x1 x2))

theorem kScales_eq : LatentKernelIdeal.Gen.k0_pay5 (F := Ideal) (fields x0 x1 x2) LatentKernelIdeal.Gen.k0_pay3 = scales x0 x1 x2 :=
  Eq.trans (b := Rows.kScaleVec (fields x0 x1 x2)) rfl (kScale_eq x0 x1 x2)

theorem kFields_eq : LatentKernelIdeal.Gen.k0_pay2 (F := Ideal) x0 x1 x2 = fields x0 x1 x2 := rfl

theorem kLn_eq : LatentKernelIdeal.Gen.k0_pay1 (F := Ideal) x0 x1 x2 = ln x0 x1 x2 := rfl

theorem k6 (wt : FVec Ideal S1024x1024 .fp8e4m3) : LatentKernelIdeal.Gen.out0_6 x0 x1 x2 wt x4 x5 = codes x0 x1 x2 := by
  unfold LatentKernelIdeal.Gen.out0_6 LatentKernelIdeal.Gen.k0_pay10 LatentKernelIdeal.Gen.k0_pay9 LatentKernelIdeal.Gen.k0_pay8
  refine (View.canon_cons_unit_lit _ _ _ (by decide)).trans ?_
  rw [kLd0, kLd1, kLd1, kFields_eq, kLn_eq, kCodes_eq]

theorem k7 (wt : FVec Ideal S1024x1024 .fp8e4m3) : LatentKernelIdeal.Gen.out0_7 x0 x1 x2 wt x4 x5 = scales x0 x1 x2 := by
  unfold LatentKernelIdeal.Gen.out0_7 LatentKernelIdeal.Gen.k0_pay10 LatentKernelIdeal.Gen.k0_pay9
  refine (View.canon_cons_unit_lit _ _ _ (by decide)).trans ?_
  rw [kLd0, kLd1, kLd1, kFields_eq, kScales_eq]

theorem k8 : LatentKernelIdeal.Gen.out0_8 x0 x1 x2
      (transpose S1024x1024 [1, 0] w LatentKernelIdeal.Facts₀.transposes_S1024x1024_S1024x1024_1_0) x4 x5 = queries x0 x1 x2 w x4 x5 := by
  unfold LatentKernelIdeal.Gen.out0_8 LatentKernelIdeal.Gen.k0_pay10 LatentKernelIdeal.Gen.k0_pay9 LatentKernelIdeal.Gen.k0_pay8
  refine (View.canon_cons_unit_lit _ _ _ (by decide)).trans ?_
  rw [kLd0, kLd1, kLd1, kLd1, kLd1, kLd3, kFields_eq, kLn_eq]
  unfold LatentKernelIdeal.Gen.k0_pay7
  simp only [cast_self]
  rw [kCodes_eq, kScales_eq, product_eq]
  rfl

end

end Cert.Latent

namespace Cert.Latent

open Idealize.ShloMosaic Idealize.ShloMosaic.TcCoe Idealize.SL.Sem
open Idealize.ShloMosaic.Pipeline (Dat)

/-! ## The kernel's run -/

namespace Ker

open Cert.LatentKernelIdeal Cert.LatentKernelIdeal.Gen

variable (m : (ℓ : Loc nD τ sig) → Buf (Elt Ideal) ℓ) (ρ : Dev nD → PrngReg)

abbrev z (c : Dev nD) : Vec Ideal S288x1024 .f32 := m ((c : Thread nD τ).loc main_arg0)
abbrev g (c : Dev nD) : Vec Ideal S1x1024 .f32 := shapeCast (s := S1024) S1x1024 (m ((c : Thread nD τ).loc main_arg1)) shapeCasts_S1024_S1x1024
abbrev b (c : Dev nD) : Vec Ideal S1x1024 .f32 := shapeCast (s := S1024) S1x1024 (m ((c : Thread nD τ).loc main_arg2)) shapeCasts_S1024_S1x1024
abbrev w (c : Dev nD) : FVec Ideal S1024x1024 .fp8e4m3 := shapeCast (s := S1024x16x64) S1024x1024 (m ((c : Thread nD τ).loc main_arg3)) shapeCasts_S1024x16x64_S1024x1024
abbrev ws (c : Dev nD) : Vec Ideal S1x1024 .f32 := shapeCast (s := S16x64) S1x1024 (m ((c : Thread nD τ).loc main_arg4)) shapeCasts_S16x64_S1x1024
abbrev wb (c : Dev nD) : Vec Ideal S1x1024 .f32 := shapeCast (s := S16x64) S1x1024 (m ((c : Thread nD τ).loc main_arg5)) shapeCasts_S16x64_S1x1024
abbrev wT (c : Dev nD) : FVec Ideal S1024x1024 .fp8e4m3 := transpose S1024x1024 [1, 0] (w m c) transposes_S1024x1024_S1024x1024_1_0

theorem V_g (c : Dev nD) : V m c main_v0 = g m c := by
  show StableHlo.after hostOps0 (fun b => m (c, b)) (Proc.devRef .tc main_v0) = _
  after_results
  rfl

theorem V_b (c : Dev nD) : V m c main_v1 = b m c := by
  show StableHlo.after hostOps0 (fun b => m (c, b)) (Proc.devRef .tc main_v1) = _
  after_results
  rfl

theorem V_wT (c : Dev nD) : V m c main_v3 = wT m c := by
  show StableHlo.after hostOps0 (fun b => m (c, b)) (Proc.devRef .tc main_v3) = _
  after_results
  rfl

theorem V_ws (c : Dev nD) : V m c main_v4 = ws m c := by
  show StableHlo.after hostOps0 (fun b => m (c, b)) (Proc.devRef .tc main_v4) = _
  after_results
  rfl

theorem V_wb (c : Dev nD) : V m c main_v5 = wb m c := by
  show StableHlo.after hostOps0 (fun b => m (c, b)) (Proc.devRef .tc main_v5) = _
  after_results
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

theorem blk0 (c : Dev nD) (t : Fin cfg0.N) : iblk m c 0 t = z m c := by
  funext y
  blk_simp [iblk]
  rw [V_main_arg0]
  refine congrArg (z m c) ?_
  blk_ext [idx0]

theorem blk1 (c : Dev nD) (t : Fin cfg0.N) : iblk m c 1 t = g m c := by
  funext y
  blk_simp [iblk]
  rw [V_g]
  refine congrArg (g m c) ?_
  blk_ext [idx1]

theorem blk2 (c : Dev nD) (t : Fin cfg0.N) : iblk m c 2 t = b m c := by
  funext y
  blk_simp [iblk]
  rw [V_b]
  refine congrArg (b m c) ?_
  blk_ext [idx2]

theorem blk3 (c : Dev nD) (t : Fin cfg0.N) : iblk m c 3 t = wT m c := by
  funext y
  blk_simp [iblk]
  rw [V_wT]
  refine congrArg (wT m c) ?_
  blk_ext [idx3]

theorem blk4 (c : Dev nD) (t : Fin cfg0.N) : iblk m c 4 t = ws m c := by
  funext y
  blk_simp [iblk]
  rw [V_ws]
  refine congrArg (ws m c) ?_
  blk_ext [idx4]

theorem blk5 (c : Dev nD) (t : Fin cfg0.N) : iblk m c 5 t = wb m c := by
  funext y
  blk_simp [iblk]
  rw [V_wb]
  refine congrArg (wb m c) ?_
  blk_ext [idx5]

theorem final6 (c : Dev nD) : (dats m 0 c).arrAt 6 cfg0.N = codes (z m c) (g m c) (b m c) := by
  refine (dats m 0 c).arrAt_eq_of_covers 6 _ (by decide +kernel) fun t _ y => ?_
  blk_simp
  rw [after0_6, blk0, blk1, blk2, blk3, blk4, blk5, k6]
  refine congrArg (codes (z m c) (g m c) (b m c)) ?_
  symm
  blk_ext [idx6]

theorem final7 (c : Dev nD) : (dats m 0 c).arrAt 7 cfg0.N = scales (z m c) (g m c) (b m c) := by
  refine (dats m 0 c).arrAt_eq_of_covers 7 _ (by decide +kernel) fun t _ y => ?_
  blk_simp
  rw [after0_7, blk0, blk1, blk2, blk3, blk4, blk5, k7]
  refine congrArg (scales (z m c) (g m c) (b m c)) ?_
  symm
  blk_ext [idx7]

theorem final8 (c : Dev nD) : (dats m 0 c).arrAt 8 cfg0.N = queries (z m c) (g m c) (b m c) (w m c) (ws m c) (wb m c) := by
  refine (dats m 0 c).arrAt_eq_of_covers 8 _ (by decide +kernel) fun t _ y => ?_
  blk_simp
  rw [after0_8, blk0, blk1, blk2, blk3, blk4, blk5, k8]
  refine congrArg (queries (z m c) (g m c) (b m c) (w m c) (ws m c) (wb m c)) ?_
  symm
  blk_ext [idx8]

/-- The three results at the functions above of the arguments, the arguments unchanged. -/
theorem run : θ_run defs (onTc (τ := τ) (main (F := Ideal))) ⟨m, fun _ => 0, ρ⟩ fun r => ∀ c : Dev nD,
      r.2.mem ((c : Thread nD τ).loc main_v6_0) = codes (z m c) (g m c) (b m c)
      ∧ r.2.mem ((c : Thread nD τ).loc main_v6_1) = scales (z m c) (g m c) (b m c)
      ∧ r.2.mem ((c : Thread nD τ).loc main_v6_2) = queries (z m c) (g m c) (b m c) (w m c) (ws m c) (wb m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    have := h c
    rw [final6, final7, final8] at this
    exact this) (Cert.LatentKernelIdeal.Run.run_blocks m ρ)

end Ker

/-! ## The reference's run -/

namespace Ref

open Cert.LatentReferenceIdeal Cert.LatentReferenceIdeal.Gen

variable (m : (ℓ : Loc nD τ sig) → Buf (Elt Ideal) ℓ) (ρ : Dev nD → PrngReg)

abbrev z (c : Dev nD) : Vec Ideal S288x1024 .f32 := m ((c : Thread nD τ).loc main_arg0)
abbrev g (c : Dev nD) : Vec Ideal S1x1024 .f32 := shapeCast (s := S1024) S1x1024 (m ((c : Thread nD τ).loc main_arg1)) shapeCasts_S1024_S1x1024
abbrev b (c : Dev nD) : Vec Ideal S1x1024 .f32 := shapeCast (s := S1024) S1x1024 (m ((c : Thread nD τ).loc main_arg2)) shapeCasts_S1024_S1x1024
abbrev w (c : Dev nD) : FVec Ideal S1024x1024 .fp8e4m3 := shapeCast (s := S1024x16x64) S1024x1024 (m ((c : Thread nD τ).loc main_arg3)) shapeCasts_S1024x16x64_S1024x1024
abbrev ws (c : Dev nD) : Vec Ideal S1x1024 .f32 := shapeCast (s := S16x64) S1x1024 (m ((c : Thread nD τ).loc main_arg4)) shapeCasts_S16x64_S1x1024
abbrev wb (c : Dev nD) : Vec Ideal S1x1024 .f32 := shapeCast (s := S16x64) S1x1024 (m ((c : Thread nD τ).loc main_arg5)) shapeCasts_S16x64_S1x1024

theorem V_g (c : Dev nD) : V m c main_v0 = g m c := by
  show StableHlo.after hostOps0 (fun b => m (c, b)) (Proc.devRef .tc main_v0) = _
  after_results
  rfl

theorem V_b (c : Dev nD) : V m c main_v1 = b m c := by
  show StableHlo.after hostOps0 (fun b => m (c, b)) (Proc.devRef .tc main_v1) = _
  after_results
  rfl

theorem V_w (c : Dev nD) : V m c main_v2 = w m c := by
  show StableHlo.after hostOps0 (fun b => m (c, b)) (Proc.devRef .tc main_v2) = _
  after_results
  rfl

theorem V_ws (c : Dev nD) : V m c main_v3 = ws m c := by
  show StableHlo.after hostOps0 (fun b => m (c, b)) (Proc.devRef .tc main_v3) = _
  after_results
  rfl

theorem V_wb (c : Dev nD) : V m c main_v4 = wb m c := by
  show StableHlo.after hostOps0 (fun b => m (c, b)) (Proc.devRef .tc main_v4) = _
  after_results
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

theorem blk0 (c : Dev nD) (t : Fin cfg0.N) : iblk m c 0 t = z m c := by
  funext y
  blk_simp [iblk]
  rw [V_main_arg0]
  refine congrArg (z m c) ?_
  blk_ext [idx0]

theorem blk1 (c : Dev nD) (t : Fin cfg0.N) : iblk m c 1 t = g m c := by
  funext y
  blk_simp [iblk]
  rw [V_g]
  refine congrArg (g m c) ?_
  blk_ext [idx1]

theorem blk2 (c : Dev nD) (t : Fin cfg0.N) : iblk m c 2 t = b m c := by
  funext y
  blk_simp [iblk]
  rw [V_b]
  refine congrArg (b m c) ?_
  blk_ext [idx2]

theorem blk3 (c : Dev nD) (t : Fin cfg0.N) : iblk m c 3 t = w m c := by
  funext y
  blk_simp [iblk]
  rw [V_w]
  refine congrArg (w m c) ?_
  blk_ext [idx3]

theorem blk4 (c : Dev nD) (t : Fin cfg0.N) : iblk m c 4 t = ws m c := by
  funext y
  blk_simp [iblk]
  rw [V_ws]
  refine congrArg (ws m c) ?_
  blk_ext [idx4]

theorem blk5 (c : Dev nD) (t : Fin cfg0.N) : iblk m c 5 t = wb m c := by
  funext y
  blk_simp [iblk]
  rw [V_wb]
  refine congrArg (wb m c) ?_
  blk_ext [idx5]

theorem final6 (c : Dev nD) : (dats m 0 c).arrAt 6 cfg0.N = codes (z m c) (g m c) (b m c) := by
  refine (dats m 0 c).arrAt_eq_of_covers 6 _ (by decide +kernel) fun t _ y => ?_
  blk_simp
  rw [after0_6, blk0, blk1, blk2, blk3, blk4, blk5, r6]
  refine congrArg (codes (z m c) (g m c) (b m c)) ?_
  symm
  blk_ext [idx6]

theorem final7 (c : Dev nD) : (dats m 0 c).arrAt 7 cfg0.N = scales (z m c) (g m c) (b m c) := by
  refine (dats m 0 c).arrAt_eq_of_covers 7 _ (by decide +kernel) fun t _ y => ?_
  blk_simp
  rw [after0_7, blk0, blk1, blk2, blk3, blk4, blk5, r7]
  refine congrArg (scales (z m c) (g m c) (b m c)) ?_
  symm
  blk_ext [idx7]

theorem final8 (c : Dev nD) : (dats m 0 c).arrAt 8 cfg0.N = queries (z m c) (g m c) (b m c) (w m c) (ws m c) (wb m c) := by
  refine (dats m 0 c).arrAt_eq_of_covers 8 _ (by decide +kernel) fun t _ y => ?_
  blk_simp
  rw [after0_8, blk0, blk1, blk2, blk3, blk4, blk5, r8]
  refine congrArg (queries (z m c) (g m c) (b m c) (w m c) (ws m c) (wb m c)) ?_
  symm
  blk_ext [idx8]

/-- The three results at the functions above of the arguments, the arguments unchanged. -/
theorem run : θ_run defs (onTc (τ := τ) (main (F := Ideal))) ⟨m, fun _ => 0, ρ⟩ fun r => ∀ c : Dev nD,
      r.2.mem ((c : Thread nD τ).loc main_v5_0) = codes (z m c) (g m c) (b m c)
      ∧ r.2.mem ((c : Thread nD τ).loc main_v5_1) = scales (z m c) (g m c) (b m c)
      ∧ r.2.mem ((c : Thread nD τ).loc main_v5_2) = queries (z m c) (g m c) (b m c) (w m c) (ws m c) (wb m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    have := h c
    rw [final6, final7, final8] at this
    exact this) (Cert.LatentReferenceIdeal.Run.run_blocks m ρ)

end Ref

/-! ## The value claim -/

theorem algebraic : algebraic_LatentKernelIdeal_LatentReferenceIdeal
    (hLatentKernelIdeal := LatentKernelIdeal.Gen.facts) (hLatentReferenceIdeal := LatentReferenceIdeal.Gen.facts) := by
  intro m ρ m' ρ' _ hagree
  have e0 := fun c : Dev LatentKernelIdeal.nD => show Ref.z m' c = Ker.z m c from (hagree c).1
  have e1 := fun c : Dev LatentKernelIdeal.nD => show Ref.g m' c = Ker.g m c from
    congrArg (fun v => shapeCast (s := LatentKernelIdeal.S1024) LatentKernelIdeal.S1x1024 v _) (hagree c).2.1
  have e2 := fun c : Dev LatentKernelIdeal.nD => show Ref.b m' c = Ker.b m c from
    congrArg (fun v => shapeCast (s := LatentKernelIdeal.S1024) LatentKernelIdeal.S1x1024 v _) (hagree c).2.2.1
  have e3 := fun c : Dev LatentKernelIdeal.nD => show Ref.w m' c = Ker.w m c from
    congrArg (fun v => shapeCast (s := LatentKernelIdeal.S1024x16x64) LatentKernelIdeal.S1024x1024 v _) (hagree c).2.2.2.1
  have e4 := fun c : Dev LatentKernelIdeal.nD => show Ref.ws m' c = Ker.ws m c from
    congrArg (fun v => shapeCast (s := LatentKernelIdeal.S16x64) LatentKernelIdeal.S1x1024 v _) (hagree c).2.2.2.2.1
  have e5 := fun c : Dev LatentKernelIdeal.nD => show Ref.wb m' c = Ker.wb m c from
    congrArg (fun v => shapeCast (s := LatentKernelIdeal.S16x64) LatentKernelIdeal.S1x1024 v _) (hagree c).2.2.2.2.2
  refine ⟨fun c => codes (Ker.z m c) (Ker.g m c) (Ker.b m c), fun c => scales (Ker.z m c) (Ker.g m c) (Ker.b m c),
    fun c => queries (Ker.z m c) (Ker.g m c) (Ker.b m c) (Ker.w m c) (Ker.ws m c) (Ker.wb m c), Ker.run m ρ, ?_⟩
  refine (θ_run _ _ _).mono (fun r h c => ?_) (Ref.run m' ρ')
  have h := h c
  rw [e0 c, e1 c, e2 c, e3 c, e4 c, e5 c] at h
  exact h

end Cert.Latent
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.LatentKernel.Frame
public import proofs.«01_k».proof.Proof.Gen.LatentKernelIdeal.Frame
public import proofs.«01_k».proof.Proof.Gen.LatentReferenceIdeal.Frame
public import proofs.«01_k».proof.Proof.Agreement
public import proofs.«01_k».proof.Proof.Latent
public import Idealize.ShloMosaic.Adequacy
public import Idealize.ShloMosaic.Init

@[expose] public section

noncomputable section

namespace Cert.Proof

open Idealize.ShloMosaic Idealize.SL.Sem

/-- Every claim: the six programs run, keep their arguments and leave every semaphore at zero (the generated frame runs); the
    idealized kernels are the kernels (no rewrite); the kernels' results are the references' over the extended reals. -/
theorem claim : Cert.Claim :=
  ⟨Cert.Kernel.Gen.facts, Cert.KernelIdeal.Gen.facts, Cert.ReferenceIdeal.Gen.facts,
    Cert.LatentKernel.Gen.facts, Cert.LatentKernelIdeal.Gen.facts, Cert.LatentReferenceIdeal.Gen.facts,
    fun m ρ _ => Cert.Kernel.Gen.frame (F := Bits) m ρ,
    fun m ρ _ => Cert.KernelIdeal.Gen.frame (F := Ideal) m ρ,
    fun m ρ _ => Cert.ReferenceIdeal.Gen.frame (F := Ideal) m ρ,
    fun m ρ _ => Cert.LatentKernel.Gen.frame (F := Bits) m ρ,
    fun m ρ _ => Cert.LatentKernelIdeal.Gen.frame (F := Ideal) m ρ,
    fun m ρ _ => Cert.LatentReferenceIdeal.Gen.frame (F := Ideal) m ρ,
    trivial, Cert.Agreement.algebraic, trivial, Cert.Latent.algebraic⟩

end Cert.Proof

end
